-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v18_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S28672x8192 : Shape := ⟨2, ![28672, 8192]⟩
abbrev S8192x8192 : Shape := ⟨2, ![8192, 8192]⟩
abbrev S32x16x8 : Shape := ⟨3, ![32, 16, 8]⟩
abbrev S512x2048 : Shape := ⟨2, ![512, 2048]⟩
abbrev S512x1024 : Shape := ⟨2, ![512, 1024]⟩
abbrev S2048x1024 : Shape := ⟨2, ![2048, 1024]⟩
abbrev S1x16x8 : Shape := ⟨3, ![1, 16, 8]⟩
abbrev S1x8 : Shape := ⟨2, ![1, 8]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S1x1x8 : Shape := ⟨3, ![1, 1, 8]⟩
abbrev S4x8x16x8 : Shape := ⟨4, ![4, 8, 16, 8]⟩
abbrev S4x16x8x8 : Shape := ⟨4, ![4, 16, 8, 8]⟩
abbrev S64x64 : Shape := ⟨2, ![64, 64]⟩

abbrev nBuf : Space → Nat
  | .hbm => 9
  | .vmem => 13
  | .smem => 0
  | _ => 0

abbrev bufTy : (tb : Table) → Fin (tcTables nBuf tb) → BufTy
  | .hbm, ⟨0, _⟩ => ⟨S28672x8192, .bf16⟩
  | .hbm, ⟨1, _⟩ => ⟨S28672x8192, .bf16⟩
  | .hbm, ⟨2, _⟩ => ⟨S8192x8192, .f32⟩
  | .hbm, ⟨3, _⟩ => ⟨S8192x8192, .i8⟩
  | .hbm, ⟨4, _⟩ => ⟨S32x16x8, .f32⟩
  | .hbm, ⟨5, _⟩ => ⟨S8192x8192, .f32⟩
  | .hbm, ⟨6, _⟩ => ⟨S4x8x16x8, .f32⟩
  | .hbm, ⟨7, _⟩ => ⟨S4x16x8x8, .f32⟩
  | .hbm, ⟨8, _⟩ => ⟨S64x64, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .i8⟩
  | .local _ .vmem, ⟨7, _⟩ => ⟨S2048x1024, .i8⟩
  | .local _ .vmem, ⟨8, _⟩ => ⟨S1x16x8, .f32⟩
  | .local _ .vmem, ⟨9, _⟩ => ⟨S1x16x8, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | _, _ => ⟨S28672x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 56], ![false, false, false]⟩

def k0_cond2 (i : grid0.Coords) : BitVec 1 :=
  let arg2 : BitVec 32 := BitVec.ofNat 32 (i 2).val
  let c55_i32 : BitVec 32 := 55#32
  let v11 : BitVec 1 := Scalar.cmpi .eq arg2 c55_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c16_i32 : BitVec 32 := 16#32
  let v14 : BitVec 32 := Scalar.addi c0_i32_9 c16_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  v15
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v18 : Index := Scalar.indexCast v16
  let c0_12 : Index := 0#32
  ![v18.toNat, 0]
def k0_off2 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v51 : Index := Scalar.indexCast v16
  let c128 : Index := 128#32
  ![v51.toNat, 128]
def k0_off3 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v84 : Index := Scalar.indexCast v16
  let c256 : Index := 256#32
  ![v84.toNat, 256]
def k0_off4 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v117 : Index := Scalar.indexCast v16
  let c384 : Index := 384#32
  ![v117.toNat, 384]
def k0_off5 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v150 : Index := Scalar.indexCast v16
  let c512 : Index := 512#32
  ![v150.toNat, 512]
def k0_off6 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v183 : Index := Scalar.indexCast v16
  let c640 : Index := 640#32
  ![v183.toNat, 640]
def k0_off7 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v216 : Index := Scalar.indexCast v16
  let c768 : Index := 768#32
  ![v216.toNat, 768]
def k0_off8 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c128_i32 : BitVec 32 := 128#32
  let v15 : BitVec 32 := Scalar.muli arg10 c128_i32
  let v16 : BitVec 32 := v15
  let v249 : Index := Scalar.indexCast v16
  let c896 : Index := 896#32
  ![v249.toNat, 896]
def k0_off9 (k0_t1 : Fin k0_t1_loop.trips) : Fin 3 → Nat :=
  let c0_87 : Index := 0#32
  let c0_i32_9 : BitVec 32 := 0#32
  let c1_i32 : BitVec 32 := 1#32
  let arg10 : BitVec 32 := Scf.iv c0_i32_9 c1_i32 k0_t1
  let v282 : Index := Scalar.indexCast arg10
  let c0_88 : Index := 0#32
  ![0, v282.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S28672x8192 : Shape := ⟨2, ![28672, 8192]⟩
abbrev S8192x8192 : Shape := ⟨2, ![8192, 8192]⟩
abbrev S64x128x64x128 : Shape := ⟨4, ![64, 128, 64, 128]⟩
abbrev S_ : Shape := ⟨0, ![]⟩
abbrev S64x64 : Shape := ⟨2, ![64, 64]⟩
abbrev S64x1x64x1 : Shape := ⟨4, ![64, 1, 64, 1]⟩

abbrev nBuf : Space → Nat
  | .hbm => 36
  | .vmem => 5
  | .smem => 0
  | _ => 0

abbrev bufTy : (tb : Table) → Fin (tcTables nBuf tb) → BufTy
  | .hbm, ⟨0, _⟩ => ⟨S28672x8192, .bf16⟩
  | .hbm, ⟨1, _⟩ => ⟨S28672x8192, .bf16⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S64x128x64x128, .f32⟩
  | .hbm, ⟨6, _⟩ => ⟨S64x128x64x128, .f32⟩
  | .hbm, ⟨7, _⟩ => ⟨S_, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .i1⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x1x64x1, .f32⟩
  | .hbm, ⟨20, _⟩ => ⟨S64x128x64x128, .f32⟩
  | .hbm, ⟨21, _⟩ => ⟨S64x128x64x128, .f32⟩
  | .hbm, ⟨22, _⟩ => ⟨S64x128x64x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64x128x64x128, .f32⟩
  | .hbm, ⟨27, _⟩ => ⟨S64x128x64x128, .f32⟩
  | .hbm, ⟨28, _⟩ => ⟨S_, .f32⟩
  | .hbm, ⟨29, _⟩ => ⟨S64x128x64x128, .f32⟩
  | .hbm, ⟨30, _⟩ => ⟨S64x128x64x128, .f32⟩
  | .hbm, ⟨31, _⟩ => ⟨S8192x8192, .f32⟩
  | .hbm, ⟨32, _⟩ => ⟨S64x128x64x128, .f32⟩
  | .hbm, ⟨33, _⟩ => ⟨S8192x8192, .f32⟩
  | .hbm, ⟨34, _⟩ => ⟨S8192x8192, .i8⟩
  | .hbm, ⟨35, _⟩ => ⟨S8192x8192, .f32⟩
  | .local _ .vmem, ⟨0, _⟩ => ⟨S8192x8192, .f32⟩
  | .local _ .vmem, ⟨1, _⟩ => ⟨S8192x8192, .f32⟩
  | .local _ .vmem, ⟨2, _⟩ => ⟨S8192x8192, .f32⟩
  | .local _ .vmem, ⟨3, _⟩ => ⟨S8192x8192, .i8⟩
  | .local _ .vmem, ⟨4, _⟩ => ⟨S8192x8192, .f32⟩
  | _, _ => ⟨S28672x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Trip.lean ====
/- ONE TRIP of the quantising loop, row `r` of the block's 16 rows of squares. The loop body is unrolled over the 8
   squares of the row; each square goes through the same operations, cut differently by the printer. Here the trip's
   stores are brought to one form: for every column `c`, the codes and the residual of square `(r, c)` are the same two
   functions (`k0_pay8`, `k0_pay9`: those of the first column) of that square of the accumulator and of the error block,
   and the row of scales holds at lane `c` the scale (`k0_pay6`) of square `(r, c)`. -/
module

public import proofs.«01_k».proof.Proof.Gen.KernelIdeal.Loops
public import Idealize.ShloMosaic.Lib.Pipeline.ValueKit

@[expose] public section

set_option maxRecDepth 16384

noncomputable section

namespace Cert.KernelIdeal.Trip

open Cert.KernelIdeal Cert.KernelIdeal.Gen Idealize.ShloMosaic Idealize.ShloMosaic.TcCoe Idealize.SL.Sem

variable {F : FTy → Type} [FloatOps F]

/-- Square `(r, c)` of a block: its 128 rows from `128 r` and 128 columns from `128 c`. -/
def square (M : Vec F S2048x1024 .f32) (r : Fin 16) (c : Fin 8) : Vec F S128x128 .f32 := fun x =>
  M (ix2 ⟨128 * r.val + (x 0).val, by have h : (x 0).val < 128 := (x 0).isLt; omega⟩
    ⟨128 * c.val + (x 1).val, by have h : (x 1).val < 128 := (x 1).isLt; omega⟩)

/-- The place of square `(r, c)` lies inside the block. -/
theorem sq_inb (r : Fin 16) (c : Fin 8) :
    ∀ a, (![128 * r.val, 128 * c.val] : Fin 2 → ℕ) a + S128x128.size a ≤ S2048x1024.size a := by
  intro a
  match a with
  | ⟨0, _⟩ => show 128 * r.val + 128 ≤ 2048; omega
  | ⟨1, _⟩ => show 128 * c.val + 128 ≤ 1024; omega

/-- The place of row `r` of scales lies inside the block of scales. -/
theorem row_inb (r : Fin 16) : ∀ a, (![0, r.val, 0] : Fin 3 → ℕ) a + S1x1x8.size a ≤ S1x16x8.size a := by
  intro a
  match a with
  | ⟨0, _⟩ => show 0 + 1 ≤ 1; omega
  | ⟨1, _⟩ => show r.val + 1 ≤ 16; omega
  | ⟨2, _⟩ => show 0 + 8 ≤ 8; omega

/-- The store of the codes of square `(r, c)`, from the accumulator `A` and the error block `E`. -/
def codesPiece (A E : Vec F S2048x1024 .f32) (r : Fin 16) (c : Fin 8) : View.Piece (Elt F) S2048x1024 .i8 :=
  ⟨Rect.unit (s := S2048x1024) ![128 * r.val, 128 * c.val] S128x128.size (sq_inb r c), k0_pay8 (square A r c) (square E r c)⟩

/-- The store of the residual of square `(r, c)`. -/
def errPiece (A E : Vec F S2048x1024 .f32) (r : Fin 16) (c : Fin 8) : View.Piece (Elt F) S2048x1024 .f32 :=
  ⟨Rect.unit (s := S2048x1024) ![128 * r.val, 128 * c.val] S128x128.size (sq_inb r c), k0_pay9 (square A r c) (square E r c)⟩

/-- The store of the scales of the 8 squares of row `r`. -/
def scalePiece (A E : Vec F S2048x1024 .f32) (r : Fin 16) : View.Piece (Elt F) S1x16x8 .f32 :=
  ⟨Rect.unit (s := S1x16x8) ![0, r.val, 0] S1x1x8.size (row_inb r),
    fun x => k0_pay6 (square A r (x 2 : Fin 8)) (square E r (x 2 : Fin 8))⟩

/-- A load of 128 by 128 elements at square `(r, c)`'s place reads that square. -/
theorem readAt_square {κ : Kind} {sp : Space} (v : View sig κ sp S2048x1024 .f32) (X : v.ty.Contents (Elt F)) {off : Fin 2 → ℕ}
    (inb : ∀ a, off a + S128x128.size a ≤ S2048x1024.size a) (r : Fin 16) (c : Fin 8)
    (h : off = ![128 * r.val, 128 * c.val]) :
    v.readAt (Elt F) (Rect.unit (s := S2048x1024) off S128x128.size inb).toLoadRect X = square (v.read (Elt F) X) r c := by
  subst h
  funext x
  refine congrArg (v.read (Elt F) X) (funext fun a => Fin.ext ?_)
  match a with
  | ⟨0, _⟩ => show 128 * r.val + 1 * (x 0).val = 128 * r.val + (x 0).val; omega
  | ⟨1, _⟩ => show 128 * c.val + 1 * (x 1).val = 128 * c.val + (x 1).val; omega

/-- A store of the codes over two loads at the same place is `codesPiece`. -/
theorem codesPiece_eq {κ κ' : Kind} {sp sp' : Space} (v : View sig κ sp S2048x1024 .f32) (X : v.ty.Contents (Elt F))
    (v' : View sig κ' sp' S2048x1024 .f32) (X' : v'.ty.Contents (Elt F)) {off : Fin 2 → ℕ}
    (inb : ∀ a, off a + S128x128.size a ≤ S2048x1024.size a) (r : Fin 16) (c : Fin 8)
    (h : off = ![128 * r.val, 128 * c.val]) (w : IVec S128x128 8)
    (hw : w = k0_pay8 (v.readAt (Elt F) (Rect.unit (s := S2048x1024) off S128x128.size inb).toLoadRect X)
      (v'.readAt (Elt F) (Rect.unit (s := S2048x1024) off S128x128.size inb).toLoadRect X')) :
    (⟨Rect.unit (s := S2048x1024) off S128x128.size inb, w⟩ : View.Piece (Elt F) S2048x1024 .i8)
      = codesPiece (v.read (Elt F) X) (v'.read (Elt F) X') r c := by
  rw [hw, readAt_square v X inb r c h, readAt_square v' X' inb r c h]
  subst h; rfl

/-- A store of the residual over two loads at the same place is `errPiece`. -/
theorem errPiece_eq {κ κ' : Kind} {sp sp' : Space} (v : View sig κ sp S2048x1024 .f32) (X : v.ty.Contents (Elt F))
    (v' : View sig κ' sp' S2048x1024 .f32) (X' : v'.ty.Contents (Elt F)) {off : Fin 2 → ℕ}
    (inb : ∀ a, off a + S128x128.size a ≤ S2048x1024.size a) (r : Fin 16) (c : Fin 8)
    (h : off = ![128 * r.val, 128 * c.val]) (w : FVec F S128x128 .f32)
    (hw : w = k0_pay9 (v.readAt (Elt F) (Rect.unit (s := S2048x1024) off S128x128.size inb).toLoadRect X)
      (v'.readAt (Elt F) (Rect.unit (s := S2048x1024) off S128x128.size inb).toLoadRect X')) :
    (⟨Rect.unit (s := S2048x1024) off S128x128.size inb, w⟩ : View.Piece (Elt F) S2048x1024 .f32)
      = errPiece (v.read (Elt F) X) (v'.read (Elt F) X') r c := by
  rw [hw, readAt_square v X inb r c h, readAt_square v' X' inb r c h]
  subst h; rfl

/-- Put the number `v` at lane `c` of a row of 8. -/
def put (c : BitVec 32) (v : F .f32) (row : FVec F S1x8 .f32) : FVec F S1x8 .f32 :=
  select (cmpi .eq (iota .tc S1x8 32 [1] iota_S1x8_d1_w32) (broadcast S1x8 c)) (broadcast S1x8 v) row

/-- The row of scales as the kernel builds it: zeros, then the eight numbers put at their lanes in turn. -/
def rowOf (s : Fin 8 → F .f32) : FVec F S1x1x8 .f32 :=
  shapeCast S1x1x8 (put 7#32 (s 7) (put 6#32 (s 6) (put 5#32 (s 5) (put 4#32 (s 4) (put 3#32 (s 3) (put 2#32 (s 2)
    (put 1#32 (s 1) (put 0#32 (s 0) (broadcast S1x8 (Scalar.ofBits .f32 0x00000000#32)))))))))) shapeCasts_S1x8_S1x1x8

/-- The row holds number `c` at lane `c`. -/
theorem rowOf_apply (s : Fin 8 → F .f32) (x : S1x1x8.Idx) : rowOf s x = s (x 2 : Fin 8) := by
  idx_vars x
  pointwise [rowOf, put]
  fin_cases x2 <;> rfl

/-- The scale computed from two loads at one place. -/
def ldScale {κ κ' : Kind} {sp sp' : Space} (v : View sig κ sp S2048x1024 .f32) (X : v.ty.Contents (Elt F))
    (v' : View sig κ' sp' S2048x1024 .f32) (X' : v'.ty.Contents (Elt F)) {off : Fin 2 → ℕ}
    (inb : ∀ a, off a + S128x128.size a ≤ S2048x1024.size a) : F .f32 :=
  k0_pay6 (v.readAt (Elt F) (Rect.unit (s := S2048x1024) off S128x128.size inb).toLoadRect X)
    (v'.readAt (Elt F) (Rect.unit (s := S2048x1024) off S128x128.size inb).toLoadRect X')

/-- It is the scale of the square at that place. -/
theorem ldScale_eq {κ κ' : Kind} {sp sp' : Space} (v : View sig κ sp S2048x1024 .f32) (X : v.ty.Contents (Elt F))
    (v' : View sig κ' sp' S2048x1024 .f32) (X' : v'.ty.Contents (Elt F)) {off : Fin 2 → ℕ}
    (inb : ∀ a, off a + S128x128.size a ≤ S2048x1024.size a) (r : Fin 16) (c : Fin 8)
    (h : off = ![128 * r.val, 128 * c.val]) :
    ldScale v X v' X' inb = k0_pay6 (square (v.read (Elt F) X) r c) (square (v'.read (Elt F) X') r c) := by
  rw [ldScale, readAt_square v X inb r c h, readAt_square v' X' inb r c h]

/-- A store of a row of scales is `scalePiece` when its numbers are the scales of the row's squares. -/
theorem scalePiece_eq (A E : Vec F S2048x1024 .f32) {off : Fin 3 → ℕ}
    (inb : ∀ a, off a + S1x1x8.size a ≤ S1x16x8.size a) (r : Fin 16) (h : off = ![0, r.val, 0])
    (w : FVec F S1x1x8 .f32) (s : Fin 8 → F .f32) (hw : w = rowOf s)
    (hs : ∀ c, s c = k0_pay6 (square A r c) (square E r c)) :
    (⟨Rect.unit (s := S1x16x8) off S1x1x8.size inb, w⟩ : View.Piece (Elt F) S1x16x8 .f32) = scalePiece A E r := by
  have e : w = fun x => k0_pay6 (square A r (x 2 : Fin 8)) (square E r (x 2 : Fin 8)) := by
    funext x; rw [hw, rowOf_apply]; exact hs _
  rw [e]; subst h; rfl

section
variable (𝒱 : Variants) (c : Dev nD) (bd : Option 𝒱.V) (i : grid0.Coords) (arg3 : Memref sig .tc .vmem S512x2048 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .i8) (harg6 : arg6.IsWhole) (arg7 : Memref sig .tc .vmem S1x16x8 .f32) (harg7 : arg7.IsWhole) (arg8 : Memref sig .tc .vmem S2048x1024 .f32) (harg8 : arg8.IsWhole) (arg9 : Memref sig .tc .vmem S2048x1024 .f32) (harg9 : arg9.IsWhole) (k0_h2 : k0_cond2 i = 1#1) (X_arg5 : BufTy.Contents (Elt F) arg5.view.ty) (X_arg9 : BufTy.Contents (Elt F) arg9.view.ty)

/-- The row of squares a trip works on. -/
abbrev rowIx (k : Fin k0_t1_loop.trips) : Fin 16 := ⟨k.val, Nat.lt_of_lt_of_le k.isLt k0_t1_abs.2.1⟩

/-- The columns of squares, in the order in which the last store comes first. -/
abbrev cols : List (Fin 8) := [7, 6, 5, 4, 3, 2, 1, 0]

/-- THE STORES OF ONE TRIP, per written buffer: the codes of the row's squares, the row's scales, the residuals of the
    row's squares. -/
theorem trip_eq (k : Fin k0_t1_loop.trips) :
    tripL_k0_t1 (F := F) 𝒱 c bd i arg3 harg3 arg4 harg4 arg5 harg5 arg6 harg6 arg7 harg7 arg8 harg8 arg9 harg9 k0_h2 X_arg5 X_arg9 k
      = (cols.map (codesPiece (arg9.view.read (Elt F) X_arg9) (arg5.view.read (Elt F) X_arg5) (rowIx k)),
         [scalePiece (arg9.view.read (Elt F) X_arg9) (arg5.view.read (Elt F) X_arg5) (rowIx k)],
         cols.map (errPiece (arg9.view.read (Elt F) X_arg9) (arg5.view.read (Elt F) X_arg5) (rowIx k))) := by
  unfold tripL_k0_t1 trip_k0_t1
  dsimp only
  refine Prod.ext ?_ (Prod.ext ?_ ?_)
  · refine congrArg₂ List.cons (codesPiece_eq _ X_arg9 _ X_arg5 _ (rowIx k) 7 (k0_off8_eq k) _ rfl) ?_
    refine congrArg₂ List.cons (codesPiece_eq _ X_arg9 _ X_arg5 _ (rowIx k) 6 (k0_off7_eq k) _ rfl) ?_
    refine congrArg₂ List.cons (codesPiece_eq _ X_arg9 _ X_arg5 _ (rowIx k) 5 (k0_off6_eq k) _ rfl) ?_
    refine congrArg₂ List.cons (codesPiece_eq _ X_arg9 _ X_arg5 _ (rowIx k) 4 (k0_off5_eq k) _ rfl) ?_
    refine congrArg₂ List.cons (codesPiece_eq _ X_arg9 _ X_arg5 _ (rowIx k) 3 (k0_off4_eq k) _ rfl) ?_
    refine congrArg₂ List.cons (codesPiece_eq _ X_arg9 _ X_arg5 _ (rowIx k) 2 (k0_off3_eq k) _ rfl) ?_
    refine congrArg₂ List.cons (codesPiece_eq _ X_arg9 _ X_arg5 _ (rowIx k) 1 (k0_off2_eq k) _ rfl) ?_
    exact congrArg₂ List.cons (codesPiece_eq _ X_arg9 _ X_arg5 _ (rowIx k) 0 (k0_off1_eq k) _ rfl) rfl
  · refine congrArg₂ List.cons (scalePiece_eq _ _ _ (rowIx k) (k0_off9_eq k) _
      ![ldScale arg9.view X_arg9 arg5.view X_arg5 (k0_off1_inb i k k0_h2),
        ldScale arg9.view X_arg9 arg5.view X_arg5 (k0_off2_inb i k k0_h2),
        ldScale arg9.view X_arg9 arg5.view X_arg5 (k0_off3_inb i k k0_h2),
        ldScale arg9.view X_arg9 arg5.view X_arg5 (k0_off4_inb i k k0_h2),
        ldScale arg9.view X_arg9 arg5.view X_arg5 (k0_off5_inb i k k0_h2),
        ldScale arg9.view X_arg9 arg5.view X_arg5 (k0_off6_inb i k k0_h2),
        ldScale arg9.view X_arg9 arg5.view X_arg5 (k0_off7_inb i k k0_h2),
        ldScale arg9.view X_arg9 arg5.view X_arg5 (k0_off8_inb i k k0_h2)] rfl fun c => ?_) rfl
    match c with
    | 0 => exact ldScale_eq _ _ _ _ _ (rowIx k) 0 (k0_off1_eq k)
    | 1 => exact ldScale_eq _ _ _ _ _ (rowIx k) 1 (k0_off2_eq k)
    | 2 => exact ldScale_eq _ _ _ _ _ (rowIx k) 2 (k0_off3_eq k)
    | 3 => exact ldScale_eq _ _ _ _ _ (rowIx k) 3 (k0_off4_eq k)
    | 4 => exact ldScale_eq _ _ _ _ _ (rowIx k) 4 (k0_off5_eq k)
    | 5 => exact ldScale_eq _ _ _ _ _ (rowIx k) 5 (k0_off6_eq k)
    | 6 => exact ldScale_eq _ _ _ _ _ (rowIx k) 6 (k0_off7_eq k)
    | 7 => exact ldScale_eq _ _ _ _ _ (rowIx k) 7 (k0_off8_eq k)
  · refine congrArg₂ List.cons (errPiece_eq _ X_arg9 _ X_arg5 _ (rowIx k) 7 (k0_off8_eq k) _ rfl) ?_
    refine congrArg₂ List.cons (errPiece_eq _ X_arg9 _ X_arg5 _ (rowIx k) 6 (k0_off7_eq k) _ rfl) ?_
    refine congrArg₂ List.cons (errPiece_eq _ X_arg9 _ X_arg5 _ (rowIx k) 5 (k0_off6_eq k) _ rfl) ?_
    refine congrArg₂ List.cons (errPiece_eq _ X_arg9 _ X_arg5 _ (rowIx k) 4 (k0_off5_eq k) _ rfl) ?_
    refine congrArg₂ List.cons (errPiece_eq _ X_arg9 _ X_arg5 _ (rowIx k) 3 (k0_off4_eq k) _ rfl) ?_
    refine congrArg₂ List.cons (errPiece_eq _ X_arg9 _ X_arg5 _ (rowIx k) 2 (k0_off3_eq k) _ rfl) ?_
    refine congrArg₂ List.cons (errPiece_eq _ X_arg9 _ X_arg5 _ (rowIx k) 1 (k0_off2_eq k) _ rfl) ?_
    exact congrArg₂ List.cons (errPiece_eq _ X_arg9 _ X_arg5 _ (rowIx k) 0 (k0_off1_eq k) _ rfl) rfl

/-- Every store of the codes in the trips before `n` is that of some square. -/
theorem pb_codes (n : ℕ) (hn : n ≤ k0_t1_loop.trips) :
    ∀ p ∈ (pb_k0_t1 (F := F) 𝒱 c bd i arg3 harg3 arg4 harg4 arg5 harg5 arg6 harg6 arg7 harg7 arg8 harg8 arg9 harg9 k0_h2 X_arg5 X_arg9 n).1,
      ∃ r q, p = codesPiece (arg9.view.read (Elt F) X_arg9) (arg5.view.read (Elt F) X_arg5) r q := by
  induction n with
  | zero => intro p hp; simp [pb_k0_t1] at hp
  | succ n ih =>
    intro p hp
    rw [pb_k0_t1_succ 𝒱 c bd i arg3 harg3 arg4 harg4 arg5 harg5 arg6 harg6 arg7 harg7 arg8 harg8 arg9 harg9 k0_h2 X_arg5 X_arg9 ⟨n, hn⟩,
      trip_eq] at hp
    rcases List.mem_append.mp hp with h | h
    · obtain ⟨q, _, rfl⟩ := List.mem_map.mp h
      exact ⟨_, q, rfl⟩
    · exact ih (Nat.le_of_succ_le hn) p h

/-- Every store of scales in the trips before `n` is that of some row of squares. -/
theorem pb_scale (n : ℕ) (hn : n ≤ k0_t1_loop.trips) :
    ∀ p ∈ (pb_k0_t1 (F := F) 𝒱 c bd i arg3 harg3 arg4 harg4 arg5 harg5 arg6 harg6 arg7 harg7 arg8 harg8 arg9 harg9 k0_h2 X_arg5 X_arg9 n).2.1,
      ∃ r, p = scalePiece (arg9.view.read (Elt F) X_arg9) (arg5.view.read (Elt F) X_arg5) r := by
  induction n with
  | zero => intro p hp; simp [pb_k0_t1] at hp
  | succ n ih =>
    intro p hp
    rw [pb_k0_t1_succ 𝒱 c bd i arg3 harg3 arg4 harg4 arg5 harg5 arg6 harg6 arg7 harg7 arg8 harg8 arg9 harg9 k0_h2 X_arg5 X_arg9 ⟨n, hn⟩,
      trip_eq] at hp
    rcases List.mem_append.mp hp with h | h
    · exact ⟨_, List.mem_singleton.mp h⟩
    · exact ih (Nat.le_of_succ_le hn) p h

/-- Every store of residuals in the trips before `n` is that of some square. -/
theorem pb_err (n : ℕ) (hn : n ≤ k0_t1_loop.trips) :
    ∀ p ∈ (pb_k0_t1 (F := F) 𝒱 c bd i arg3 harg3 arg4 harg4 arg5 harg5 arg6 harg6 arg7 harg7 arg8 harg8 arg9 harg9 k0_h2 X_arg5 X_arg9 n).2.2,
      ∃ r q, p = errPiece (arg9.view.read (Elt F) X_arg9) (arg5.view.read (Elt F) X_arg5) r q := by
  induction n with
  | zero => intro p hp; simp [pb_k0_t1] at hp
  | succ n ih =>
    intro p hp
    rw [pb_k0_t1_succ 𝒱 c bd i arg3 harg3 arg4 harg4 arg5 harg5 arg6 harg6 arg7 harg7 arg8 harg8 arg9 harg9 k0_h2 X_arg5 X_arg9 ⟨n, hn⟩,
      trip_eq] at hp
    rcases List.mem_append.mp hp with h | h
    · obtain ⟨q, _, rfl⟩ := List.mem_map.mp h
      exact ⟨_, q, rfl⟩
    · exact ih (Nat.le_of_succ_le hn) p h

end

/-! ## The block as one function -/

/-- The row of squares a row of the block lies in, and the row within the square. -/
abbrev sqRow (a : Fin 2048) : Fin 16 := ⟨a.val / 128, by omega⟩
/-- The column of squares a column of the block lies in. -/
abbrev sqCol (b : Fin 1024) : Fin 8 := ⟨b.val / 128, by omega⟩
/-- The place within its square of an index of the block. -/
abbrev inSq (a : Fin 2048) (b : Fin 1024) : S128x128.Idx := ix2 ⟨a.val % 128, by omega⟩ ⟨b.val % 128, by omega⟩

/-- The codes of the whole block: each element from its square. -/
def blkCodes (A E : Vec F S2048x1024 .f32) : Vec F S2048x1024 .i8 := fun y =>
  k0_pay8 (square A (sqRow (y 0)) (sqCol (y 1))) (square E (sqRow (y 0)) (sqCol (y 1))) (inSq (y 0) (y 1))

/-- The residuals of the whole block: each element from its square. -/
def blkErr (A E : Vec F S2048x1024 .f32) : Vec F S2048x1024 .f32 := fun y =>
  k0_pay9 (square A (sqRow (y 0)) (sqCol (y 1))) (square E (sqRow (y 0)) (sqCol (y 1))) (inSq (y 0) (y 1))

/-- The scales of the whole block. -/
def blkScale (A E : Vec F S2048x1024 .f32) : Vec F S1x16x8 .f32 := fun y =>
  k0_pay6 (square A (y 1 : Fin 16) (y 2 : Fin 8)) (square E (y 1 : Fin 16) (y 2 : Fin 8))

/-- Where element `x` of square `(r, q)` lies: in row `r` and column `q` of squares, at place `x`. -/
theorem emb_square (r : Fin 16) (q : Fin 8) (x : S128x128.Idx) :
    let y := (Rect.unit (s := S2048x1024) ![128 * r.val, 128 * q.val] S128x128.size (sq_inb r q)).emb x
    sqRow (y 0) = r ∧ sqCol (y 1) = q ∧ inSq (y 0) (y 1) = x := by
  have h0 : (x 0).val < 128 := (x 0).isLt
  have h1 : (x 1).val < 128 := (x 1).isLt
  refine ⟨Fin.ext ?_, Fin.ext ?_, funext fun a => Fin.ext ?_⟩
  · show (128 * r.val + 1 * (x 0).val) / 128 = r.val; omega
  · show (128 * q.val + 1 * (x 1).val) / 128 = q.val; omega
  · match a with
    | ⟨0, _⟩ => show (128 * r.val + 1 * (x 0).val) % 128 = (x 0).val; omega
    | ⟨1, _⟩ => show (128 * q.val + 1 * (x 1).val) % 128 = (x 1).val; omega

/-- A square's codes are `blkCodes` at its place. -/
theorem codesPiece_agree (A E : Vec F S2048x1024 .f32) (r : Fin 16) (q : Fin 8) (x) :
    (codesPiece A E r q).2 x = blkCodes A E ((codesPiece A E r q).1.emb x) := by
  obtain ⟨h0, h1, h2⟩ := emb_square r q x
  show k0_pay8 (square A r q) (square E r q) x = k0_pay8 (square A (sqRow _) (sqCol _)) (square E (sqRow _) (sqCol _)) (inSq _ _)
  erw [h0, h1, h2]

/-- A square's residuals are `blkErr` at its place. -/
theorem errPiece_agree (A E : Vec F S2048x1024 .f32) (r : Fin 16) (q : Fin 8) (x) :
    (errPiece A E r q).2 x = blkErr A E ((errPiece A E r q).1.emb x) := by
  obtain ⟨h0, h1, h2⟩ := emb_square r q x
  show k0_pay9 (square A r q) (square E r q) x = k0_pay9 (square A (sqRow _) (sqCol _)) (square E (sqRow _) (sqCol _)) (inSq _ _)
  erw [h0, h1, h2]

/-- A row's scales are `blkScale` at its place. -/
theorem scalePiece_agree (A E : Vec F S2048x1024 .f32) (r : Fin 16) (x) :
    (scalePiece A E r).2 x = blkScale A E ((scalePiece A E r).1.emb x) := by
  have h1 : (((scalePiece A E r).1.emb x) 1 : Fin 16) = r := Fin.ext (by
    have h : (x 1).val < 1 := (x 1).isLt
    show r.val + 1 * (x 1).val = r.val; omega)
  have h2 : (((scalePiece A E r).1.emb x) 2 : Fin 8) = (x 2 : Fin 8) := Fin.ext (by
    show 0 + 1 * (x 2).val = (x 2).val; omega)
  unfold blkScale
  rw [h1, h2]
  rfl

/-! ## The stores of all trips agree with the block's functions -/

section
variable (𝒱 : Variants) (c : Dev nD) (bd : Option 𝒱.V) (i : grid0.Coords) (arg3 : Memref sig .tc .vmem S512x2048 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .i8) (harg6 : arg6.IsWhole) (arg7 : Memref sig .tc .vmem S1x16x8 .f32) (harg7 : arg7.IsWhole) (arg8 : Memref sig .tc .vmem S2048x1024 .f32) (harg8 : arg8.IsWhole) (arg9 : Memref sig .tc .vmem S2048x1024 .f32) (harg9 : arg9.IsWhole) (k0_h2 : k0_cond2 i = 1#1) (X_arg5 : BufTy.Contents (Elt F) arg5.view.ty) (X_arg9 : BufTy.Contents (Elt F) arg9.view.ty)
    (A E : Vec F S2048x1024 .f32) (hA : arg9.view.read (Elt F) X_arg9 = A) (hE : arg5.view.read (Elt F) X_arg5 = E)
    (n : ℕ) (hn : n ≤ k0_t1_loop.trips)
include hA hE hn

/-- Every store of codes, element by element, holds what `blkCodes` says at its place. -/
theorem pb_codes_agree : ∀ p ∈ (pb_k0_t1 (F := F) 𝒱 c bd i arg3 harg3 arg4 harg4 arg5 harg5 arg6 harg6 arg7 harg7 arg8 harg8 arg9 harg9 k0_h2 X_arg5 X_arg9 n).1, ∀ x : p.1.shape.Idx, p.2 x = blkCodes A E (p.1.emb x) := by
  subst hA hE
  intro p hp x
  obtain ⟨r, q, rfl⟩ := pb_codes 𝒱 c bd i arg3 harg3 arg4 harg4 arg5 harg5 arg6 harg6 arg7 harg7 arg8 harg8 arg9 harg9 k0_h2 X_arg5 X_arg9 n hn p hp
  exact codesPiece_agree _ _ r q x

/-- Every store of scales, element by element, holds what `blkScale` says at its place. -/
theorem pb_scale_agree : ∀ p ∈ (pb_k0_t1 (F := F) 𝒱 c bd i arg3 harg3 arg4 harg4 arg5 harg5 arg6 harg6 arg7 harg7 arg8 harg8 arg9 harg9 k0_h2 X_arg5 X_arg9 n).2.1, ∀ x : p.1.shape.Idx, p.2 x = blkScale A E (p.1.emb x) := by
  subst hA hE
  intro p hp x
  obtain ⟨r, rfl⟩ := pb_scale 𝒱 c bd i arg3 harg3 arg4 harg4 arg5 harg5 arg6 harg6 arg7 harg7 arg8 harg8 arg9 harg9 k0_h2 X_arg5 X_arg9 n hn p hp
  exact scalePiece_agree _ _ r x

/-- Every store of residuals, element by element, holds what `blkErr` says at its place. -/
theorem pb_err_agree : ∀ p ∈ (pb_k0_t1 (F := F) 𝒱 c bd i arg3 harg3 arg4 harg4 arg5 harg5 arg6 harg6 arg7 harg7 arg8 harg8 arg9 harg9 k0_h2 X_arg5 X_arg9 n).2.2, ∀ x : p.1.shape.Idx, p.2 x = blkErr A E (p.1.emb x) := by
  subst hA hE
  intro p hp x
  obtain ⟨r, q, rfl⟩ := pb_err 𝒱 c bd i arg3 harg3 arg4 harg4 arg5 harg5 arg6 harg6 arg7 harg7 arg8 harg8 arg9 harg9 k0_h2 X_arg5 X_arg9 n hn p hp
  exact errPiece_agree _ _ r q x

end

end Cert.KernelIdeal.Trip

end
-- ==== Proof.Point.lean ====
/- WHAT ONE GRID POINT LEAVES. The accumulator after a point is the previous one (zeros at the first point of a run) plus
   the product of the point's two blocks. At the last point of a run the quantising loop runs over that accumulator and the
   error block: the three output blocks are the codes, scales and residuals of all their squares. -/
module

public import proofs.«01_k».proof.Proof.Gen.KernelIdeal.Frame
public import proofs.«01_k».proof.Proof.Trip
public import Idealize.ShloMosaic.Lib.Pipeline.ValueKit

@[expose] public section

set_option maxRecDepth 16384

noncomputable section

namespace Cert.KernelIdeal.Point

open Cert.KernelIdeal Cert.KernelIdeal.Gen Cert.KernelIdeal.Trip Idealize.ShloMosaic Idealize.ShloMosaic.TcCoe Idealize.SL.Sem

variable {F : FTy → Type} [FloatOps F]
variable (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .i8) (harg6 : arg6.IsWhole) (arg7 : Memref sig .tc .vmem S1x16x8 .f32) (harg7 : arg7.IsWhole) (arg8 : Memref sig .tc .vmem S2048x1024 .f32) (harg8 : arg8.IsWhole) (arg9 : Memref sig .tc .vmem S2048x1024 .f32) (harg9 : arg9.IsWhole)

/-- The accumulator after the first point of a run: the point's product added to zeros. -/
theorem acc_A (hc0 : cond0_0 i) (hc1 : ¬cond0_1 i)
    (x0 : Vec F S512x2048 .bf16) (x1 : Vec F S512x1024 .bf16) (x2 : Vec F S2048x1024 .f32) :
    sout0_A_0 c i arg3 harg3 arg4 harg4 arg5 harg5 arg6 harg6 arg7 harg7 arg8 harg8 arg9 harg9 hc0 hc1 x0 x1 x2 = k0_pay2 k0_pay1 x0 x1 := by
  frame_out

/-- The accumulator after a point within a run: the point's product added to the previous accumulator. -/
theorem acc_B (hc0 : ¬cond0_0 i) (hc1 : ¬cond0_1 i)
    (x0 : Vec F S512x2048 .bf16) (x1 : Vec F S512x1024 .bf16) (x2 : Vec F S2048x1024 .f32) (xs0 : Vec F S2048x1024 .f32) :
    sout0_B_0 c i arg3 harg3 arg4 harg4 arg5 harg5 arg6 harg6 arg7 harg7 arg8 harg8 arg9 harg9 hc0 hc1 x0 x1 x2 xs0 = k0_pay2 xs0 x0 x1 := by
  frame_out

/-- The accumulator after the last point of a run. -/
theorem acc_C (hc0 : ¬cond0_0 i) (hc1 : cond0_1 i)
    (x0 : Vec F S512x2048 .bf16) (x1 : Vec F S512x1024 .bf16) (x2 : Vec F S2048x1024 .f32) (xs0 : Vec F S2048x1024 .f32) :
    sout0_C_0 c i arg3 harg3 arg4 harg4 arg5 harg5 arg6 harg6 arg7 harg7 arg8 harg8 arg9 harg9 hc0 hc1 x0 x1 x2 xs0 = k0_pay2 xs0 x0 x1 := by
  frame_out

include arg5 harg5 arg6 harg6 arg7 harg7 arg8 harg8 in
/-- What the quantising loop reads in the accumulator's buffer: the accumulator with the last product added. -/
theorem read_acc (hc0 : ¬cond0_0 i) (hc1 : cond0_1 i)
    (x0 : Vec F S512x2048 .bf16) (x1 : Vec F S512x1024 .bf16) (x2 : Vec F S2048x1024 .f32) (xs0 : Vec F S2048x1024 .f32) :
    arg9.view.read (Elt F) (arg9.view.writes (Elt F) arg9.view.junk (kernelRun0_C.sl.HS0_1 c arg3 harg3 arg4 harg4 arg9 harg9 x0 x1 xs0)) = k0_pay2 xs0 x0 x1 := by
  have h := funext fun y => View.read_writes_apply_eq (Val := Elt F) arg9.view arg9.view.junk VS0_0 VS0_0.junk y _
    (scover0_C_0 c i arg3 harg3 arg4 harg4 arg5 harg5 arg6 harg6 arg7 harg7 arg8 harg8 arg9 harg9 hc0 hc1 x0 x1 x2 xs0 y)
  exact h.trans (acc_C c i arg3 harg3 arg4 harg4 arg5 harg5 arg6 harg6 arg7 harg7 arg8 harg8 arg9 harg9 hc0 hc1 x0 x1 x2 xs0)

/-- The codes block written back at the last point of a run. -/
theorem codes_C (hc0 : ¬cond0_0 i) (hc1 : cond0_1 i)
    (x0 : Vec F S512x2048 .bf16) (x1 : Vec F S512x1024 .bf16) (x2 : Vec F S2048x1024 .f32) (xs0 : Vec F S2048x1024 .f32) :
    out0_C_3 c i arg3 harg3 arg4 harg4 arg5 harg5 arg6 harg6 arg7 harg7 arg8 harg8 arg9 harg9 hc0 hc1 x0 x1 x2 xs0 = blkCodes (k0_pay2 xs0 x0 x1) x2 := by
  funext y
  unfold out0_C_3
  refine View.read_writes_apply_of_pieces _ _ (blkCodes (k0_pay2 xs0 x0 x1) x2) _ ?_ y (cover0_C_3 c i arg3 harg3 arg4 harg4 arg5 harg5 arg6 harg6 arg7 harg7 arg8 harg8 arg9 harg9 hc0 hc1 x0 x1 x2 xs0 y)
  exact pb_codes_agree Variants.none c none i arg3 harg3 arg4 harg4 arg5 harg5 arg6 harg6 arg7 harg7 arg8 harg8 arg9 harg9 hc1 (harg5.unread x2) _
    _ _ (read_acc c i arg3 harg3 arg4 harg4 arg5 harg5 arg6 harg6 arg7 harg7 arg8 harg8 arg9 harg9 hc0 hc1 x0 x1 x2 xs0) (harg5.read_unread x2) _ (by decide)

/-- The scales block written back at the last point of a run. -/
theorem scale_C (hc0 : ¬cond0_0 i) (hc1 : cond0_1 i)
    (x0 : Vec F S512x2048 .bf16) (x1 : Vec F S512x1024 .bf16) (x2 : Vec F S2048x1024 .f32) (xs0 : Vec F S2048x1024 .f32) :
    out0_C_4 c i arg3 harg3 arg4 harg4 arg5 harg5 arg6 harg6 arg7 harg7 arg8 harg8 arg9 harg9 hc0 hc1 x0 x1 x2 xs0 = blkScale (k0_pay2 xs0 x0 x1) x2 := by
  funext y
  unfold out0_C_4
  refine View.read_writes_apply_of_pieces _ _ (blkScale (k0_pay2 xs0 x0 x1) x2) _ ?_ y (cover0_C_4 c i arg3 harg3 arg4 harg4 arg5 harg5 arg6 harg6 arg7 harg7 arg8 harg8 arg9 harg9 hc0 hc1 x0 x1 x2 xs0 y)
  exact pb_scale_agree Variants.none c none i arg3 harg3 arg4 harg4 arg5 harg5 arg6 harg6 arg7 harg7 arg8 harg8 arg9 harg9 hc1 (harg5.unread x2) _
    _ _ (read_acc c i arg3 harg3 arg4 harg4 arg5 harg5 arg6 harg6 arg7 harg7 arg8 harg8 arg9 harg9 hc0 hc1 x0 x1 x2 xs0) (harg5.read_unread x2) _ (by decide)

/-- The residual block written back at the last point of a run. -/
theorem err_C (hc0 : ¬cond0_0 i) (hc1 : cond0_1 i)
    (x0 : Vec F S512x2048 .bf16) (x1 : Vec F S512x1024 .bf16) (x2 : Vec F S2048x1024 .f32) (xs0 : Vec F S2048x1024 .f32) :
    out0_C_5 c i arg3 harg3 arg4 harg4 arg5 harg5 arg6 harg6 arg7 harg7 arg8 harg8 arg9 harg9 hc0 hc1 x0 x1 x2 xs0 = blkErr (k0_pay2 xs0 x0 x1) x2 := by
  funext y
  unfold out0_C_5
  refine View.read_writes_apply_of_pieces _ _ (blkErr (k0_pay2 xs0 x0 x1) x2) _ ?_ y (cover0_C_5 c i arg3 harg3 arg4 harg4 arg5 harg5 arg6 harg6 arg7 harg7 arg8 harg8 arg9 harg9 hc0 hc1 x0 x1 x2 xs0 y)
  exact pb_err_agree Variants.none c none i arg3 harg3 arg4 harg4 arg5 harg5 arg6 harg6 arg7 harg7 arg8 harg8 arg9 harg9 hc1 (harg5.unread x2) _
    _ _ (read_acc c i arg3 harg3 arg4 harg4 arg5 harg5 arg6 harg6 arg7 harg7 arg8 harg8 arg9 harg9 hc0 hc1 x0 x1 x2 xs0) (harg5.read_unread x2) _ (by decide)

end Cert.KernelIdeal.Point

end
-- ==== Proof.Acc.lean ====
/- THE ACCUMULATOR. Over the 56 points of a run (one output block, all of the contracted axis) the scratch buffer collects
   the products of the run's block pairs: at the run's last point it holds, at each place, the sum over all 28672
   contracted rows. -/
module

public import proofs.«01_k».proof.Proof.Point
public import Idealize.ShloMosaic.Lib.Pipeline.ValueKit

@[expose] public section

set_option maxRecDepth 16384

noncomputable section

namespace Cert.KernelIdeal.Acc

open Cert.KernelIdeal Cert.KernelIdeal.Gen Cert.KernelIdeal.Trip Idealize.ShloMosaic Idealize.ShloMosaic.TcCoe Idealize.SL.Sem
open Idealize.ShloMosaic.Pipeline (Dat)

/-- One point's contribution at a place: the product of its two blocks there. -/
def part (x : FVec Ideal S512x2048 .bf16) (y : FVec Ideal S512x1024 .bf16) (a : Fin 2048) (b : Fin 1024) : EReal :=
  ∑ k : Fin 512, x (ix2 k a) * y (ix2 k b)

/-- Adding a point's product adds its contribution at each place. -/
theorem pay2_at (acc : FVec Ideal S2048x1024 .f32) (x : FVec Ideal S512x2048 .bf16) (y : FVec Ideal S512x1024 .bf16)
    (a : Fin 2048) (b : Fin 1024) : k0_pay2 acc x y (ix2 a b) = acc (ix2 a b) + part x y a b := by
  pointwise [k0_pay2, part]

/-- The first point of a run starts from zero. -/
theorem pay1_at (a : Fin 2048) (b : Fin 1024) : k0_pay1 (F := Ideal) (ix2 a b) = 0 := by
  pointwise [k0_pay1]

variable (m : (ℓ : Loc nD τ sig) → Buf (Elt Ideal) ℓ)

/-- At the first point of a run the accumulator is the point's contribution. -/
theorem reset (c : Dev nD) (t : Fin cfg0.N) (h0 : t.val % 56 = 0) :
    (outsAt0 m c t.val t.isLt).2.2.2 = k0_pay2 k0_pay1 (iblk m c 0 t) (iblk m c 1 t) := by
  rw [outsAt0_A m c t h0 (by omega)]
  dsimp only
  rw [Point.acc_A]

/-- At every other point the accumulator is the previous one plus the point's contribution. -/
theorem step (c : Dev nD) (t : Fin cfg0.N) (h0 : ¬t.val % 56 = 0) :
    (outsAt0 m c t.val t.isLt).2.2.2
      = k0_pay2 (outsAt0 m c (t.val - 1) (Nat.lt_of_le_of_lt (Nat.sub_le _ _) t.isLt)).2.2.2 (iblk m c 0 t) (iblk m c 1 t) := by
  by_cases h1 : t.val % 56 = 55
  · rw [outsAt0_C m c t h0 h1]; dsimp only; rw [Point.acc_C]
  · rw [outsAt0_B m c t h0 h1]; dsimp only; rw [Point.acc_B]

/-- At the last point of a run the three output blocks are the codes, scales and residuals of the accumulator. -/
theorem outs (c : Dev nD) (t : Fin cfg0.N) (h1 : t.val % 56 = 55) :
    (outsAt0 m c t.val t.isLt).1 = blkCodes (outsAt0 m c t.val t.isLt).2.2.2 (iblk m c 2 t)
    ∧ (outsAt0 m c t.val t.isLt).2.1 = blkScale (outsAt0 m c t.val t.isLt).2.2.2 (iblk m c 2 t)
    ∧ (outsAt0 m c t.val t.isLt).2.2.1 = blkErr (outsAt0 m c t.val t.isLt).2.2.2 (iblk m c 2 t) := by
  rw [step m c t (by omega), outsAt0_C m c t (by omega) h1]
  dsimp only
  rw [Point.codes_C, Point.scale_C, Point.err_C]
  exact ⟨rfl, rfl, rfl⟩

end Cert.KernelIdeal.Acc

end
-- ==== Proof.Sum.lean ====
/- THE WEIGHT GRADIENT. At the last point of a run the accumulator holds, at each place of the output block, the sum over
   all 28672 rows of the two activations: the 56 block products, each a sum over its 512 rows, are one sum. With the error
   block added it is the block's part of `V`, the gradient plus the error. -/
module

public import proofs.«01_k».proof.Proof.Acc

@[expose] public section

set_option maxRecDepth 16384

noncomputable section

namespace Cert.KernelIdeal.Sum

open Cert.KernelIdeal Cert.KernelIdeal.Gen Cert.KernelIdeal.Acc Idealize.ShloMosaic Idealize.ShloMosaic.TcCoe Idealize.SL.Sem
open Idealize.ShloMosaic.Pipeline (Dat)

/-- Every window's block index at every grid point. -/
theorem idx : ∀ t : Fin cfg0.N, win0_0.index t = ![t.val % 56, t.val / 448] ∧ win0_1.index t = ![t.val % 56, t.val / 56 % 8]
    ∧ win0_2.index t = ![t.val / 448, t.val / 56 % 8] ∧ win0_3.index t = ![t.val / 448, t.val / 56 % 8]
    ∧ win0_4.index t = ![t.val / 56, 0, 0] ∧ win0_5.index t = ![t.val / 448, t.val / 56 % 8] ∧ t.val < 1792 :=
  (by decide +kernel : ∀ t : Fin grid0.N, _)

/-- The weight gradient plus the error: what is quantised. -/
def V (X Y : Vec Ideal S28672x8192 .bf16) (E : Vec Ideal S8192x8192 .f32) (i j : Fin 8192) : EReal :=
  (∑ k : Fin 28672, X (ix2 k i) * Y (ix2 k j)) + E (ix2 i j)

variable (m : (ℓ : Loc nD τ sig) → Buf (Elt Ideal) ℓ)

/-- The three arguments in memory. -/
abbrev argX (c : Dev nD) : FVec Ideal S28672x8192 .bf16 := m ((c : Thread nD τ).loc main_arg0)
@[inherit_doc argX] abbrev argY (c : Dev nD) : FVec Ideal S28672x8192 .bf16 := m ((c : Thread nD τ).loc main_arg1)
@[inherit_doc argX] abbrev argE (c : Dev nD) : FVec Ideal S8192x8192 .f32 := m ((c : Thread nD τ).loc main_arg2)

/-- `V` of the three arguments in memory. -/
abbrev Vm (c : Dev nD) : Fin 8192 → Fin 8192 → EReal :=
  V (argX m c) (argY m c) (argE m c)

/-- The accumulator at the last point of a run, as the sum of the run's 56 contributions. -/
theorem acc_runs (c : Dev nD) (t : Fin cfg0.N) (h1 : t.val % 56 = 55) (a : Fin 2048) (b : Fin 1024) :
    (outsAt0 m c t.val t.isLt).2.2.2 (ix2 a b)
      = ∑ s : Fin 56, part (iblk m c 0 ⟨56 * (t.val / 56) + s.val, Pipeline.run_point_lt_of_flush (J := 56) t h1 s⟩)
          (iblk m c 1 ⟨56 * (t.val / 56) + s.val, Pipeline.run_point_lt_of_flush (J := 56) t h1 s⟩) a b := by
  have h := Pipeline.eq_sum_fin_of_reset_step_apply_of_flush
    (fun n hn (i : Fin 2048 × Fin 1024) => ((outsAt0 m c n hn).2.2.2 (ix2 i.1 i.2) : EReal)) 56 (fun _ => (0 : EReal))
    (fun t i => part (iblk m c 0 t) (iblk m c 1 t) i.1 i.2)
    (fun t h i => by
      show (outsAt0 m c t.val t.isLt).2.2.2 (ix2 i.1 i.2) = _
      rw [reset m c t h, pay2_at, pay1_at])
    (fun t h i => by
      show (outsAt0 m c t.val t.isLt).2.2.2 (ix2 i.1 i.2) = _
      rw [step m c t h, pay2_at])
    t h1 (a, b)
  rw [zero_add] at h
  exact h

/-- A point's block of the first activation, over the array. -/
theorem x_blk (c : Dev nD) (t : Fin cfg0.N) (k : Fin 512) (a : Fin 2048) (r : Fin 28672) (i : Fin 8192)
    (hr : r.val = 512 * (t.val % 56) + k.val) (hi : i.val = 2048 * (t.val / 448) + a.val) :
    (show FVec Ideal S512x2048 .bf16 from iblk m c 0 t) (ix2 k a) = argX m c (ix2 r i) := by
  blk_ext [iblk, Gen.V, idx t]

/-- A point's block of the second activation, over the array. -/
theorem y_blk (c : Dev nD) (t : Fin cfg0.N) (k : Fin 512) (b : Fin 1024) (r : Fin 28672) (j : Fin 8192)
    (hr : r.val = 512 * (t.val % 56) + k.val) (hj : j.val = 1024 * (t.val / 56 % 8) + b.val) :
    (show FVec Ideal S512x1024 .bf16 from iblk m c 1 t) (ix2 k b) = argY m c (ix2 r j) := by
  blk_ext [iblk, Gen.V, idx t]

/-- One contribution, over the arrays: the 512 rows of the point's block of rows. -/
theorem part_blk (c : Dev nD) (t : Fin cfg0.N) (h1 : t.val % 56 = 55) (s : Fin 56) (a : Fin 2048) (b : Fin 1024)
    (i j : Fin 8192) (hi : i.val = 2048 * (t.val / 448) + a.val) (hj : j.val = 1024 * (t.val / 56 % 8) + b.val) :
    part (iblk m c 0 ⟨56 * (t.val / 56) + s.val, Pipeline.run_point_lt_of_flush (J := 56) t h1 s⟩)
          (iblk m c 1 ⟨56 * (t.val / 56) + s.val, Pipeline.run_point_lt_of_flush (J := 56) t h1 s⟩) a b
      = ∑ k : Fin 512, (fun k : Fin 28672 => argX m c (ix2 k i) * argY m c (ix2 k j))
          ⟨s.val * 512 + k.val, by omega⟩ := by
  refine Finset.sum_congr rfl fun k _ => congrArg₂ (fun p q : EReal => p * q) ?_ ?_
  · exact x_blk m c _ k a _ i (by dsimp only; omega) (by dsimp only; omega)
  · exact y_blk m c _ k b _ j (by dsimp only; omega) (by dsimp only; omega)

/-- The accumulator at the last point of a run: at each place the sum over all the rows. -/
theorem acc_last (c : Dev nD) (t : Fin cfg0.N) (h1 : t.val % 56 = 55) (a : Fin 2048) (b : Fin 1024)
    (i j : Fin 8192) (hi : i.val = 2048 * (t.val / 448) + a.val) (hj : j.val = 1024 * (t.val / 56 % 8) + b.val) :
    (outsAt0 m c t.val t.isLt).2.2.2 (ix2 a b)
      = ∑ k : Fin 28672, argX m c (ix2 k i) * argY m c (ix2 k j) := by
  rw [acc_runs m c t h1, Fin.sum_univ_tiles 56 512 rfl]
  exact Finset.sum_congr rfl fun s _ => part_blk m c t h1 s a b i j hi hj

/-- The error block, over the array. -/
theorem err_blk (c : Dev nD) (t : Fin cfg0.N) (a : Fin 2048) (b : Fin 1024)
    (i j : Fin 8192) (hi : i.val = 2048 * (t.val / 448) + a.val) (hj : j.val = 1024 * (t.val / 56 % 8) + b.val) :
    (show FVec Ideal S2048x1024 .f32 from iblk m c 2 t) (ix2 a b) = argE m c (ix2 i j) := by
  blk_ext [iblk, Gen.V, idx t]

/-- With the error block added: the block's part of `V`. -/
theorem v_last (c : Dev nD) (t : Fin cfg0.N) (h1 : t.val % 56 = 55) (a : Fin 2048) (b : Fin 1024)
    (i j : Fin 8192) (hi : i.val = 2048 * (t.val / 448) + a.val) (hj : j.val = 1024 * (t.val / 56 % 8) + b.val) :
    (outsAt0 m c t.val t.isLt).2.2.2 (ix2 a b) + (show FVec Ideal S2048x1024 .f32 from iblk m c 2 t) (ix2 a b) = Vm m c i j := by
  rw [acc_last m c t h1 a b i j hi hj, err_blk m c t a b i j hi hj, Vm, V]

end Cert.KernelIdeal.Sum

end
-- ==== Proof.Quant.lean ====
/- THE QUANTISER of one 128 by 128 square, over the extended reals: the scale is the greatest magnitude in the square over
   127 (1 for a square of zeros), an element's quotient by it is rounded to the nearest integer (ties to even) and kept
   within -127 and 127. The kept number is such an integer whatever the element and the scale are, so the int8 code holds
   it exactly: reading the code back gives the number that was stored. -/
module

public import Idealize.ShloMosaic.Lib.Pipeline.ValueKit

@[expose] public section

set_option maxRecDepth 16384

noncomputable section

namespace Cert.Quant

open Idealize.ShloMosaic

/-- The greatest magnitude in a square. -/
def absmax (v : Fin 128 → Fin 128 → EReal) : EReal :=
  Finset.fold max (Ideal.ofBits FTy.f32 0xFF800000#32) (fun x : Fin 128 × Fin 128 => FloatOps.absf (F := Ideal) (φ := .f32) (v x.1 x.2)) Finset.univ

/-- The square's scale. -/
def scaleOf (v : Fin 128 → Fin 128 → EReal) : EReal :=
  if absmax v = 0 then 1 else Ideal.div (absmax v) (Ideal.ofBits FTy.f32 0x42FE0000#32)

/-- An element's quotient by the scale, rounded and kept within -127 and 127. -/
def quant (x s : EReal) : EReal :=
  min (Ideal.ofBits FTy.f32 0x42FE0000#32)
    (max (Ideal.ofBits FTy.f32 0xC2FE0000#32) (Ideal.liftRound Ideal.roundHalfEven (Ideal.div x s)))

/-- The int8 code. -/
def code (x s : EReal) : BitVec 8 := Ideal.fptosi 8 (quant x s)

/-- What the code leaves over. -/
def resid (x s : EReal) : EReal := x - quant x s * s

/-- Square `(R, C)` of the whole array. -/
def sq (v : Fin 8192 → Fin 8192 → EReal) (R C : Fin 64) (a b : Fin 128) : EReal :=
  v ⟨128 * R.val + a.val, by omega⟩ ⟨128 * C.val + b.val, by omega⟩

/-- The scale of the square that holds place `(i, j)`. -/
def scaleAt (v : Fin 8192 → Fin 8192 → EReal) (i j : Fin 8192) : EReal :=
  scaleOf (sq v ⟨i.val / 128, by omega⟩ ⟨j.val / 128, by omega⟩)

/-- The pattern of 127 is 127. -/
theorem bits_127 : Ideal.ofBits FTy.f32 0x42FE0000#32 = ((127 : ℝ) : EReal) := by
  simp [Ideal.ofBits, Ideal.ieee]
  rw [← EReal.coe_mul]; norm_num

/-- The pattern of -127 is -127. -/
theorem bits_neg127 : Ideal.ofBits FTy.f32 0xC2FE0000#32 = ((-127 : ℝ) : EReal) := by
  simp [Ideal.ofBits, Ideal.ieee]
  rw [← EReal.coe_mul]; norm_num

/-- The kept number is an integer from -127 to 127. -/
theorem quant_int (x s : EReal) : ∃ n : ℤ, -127 ≤ n ∧ n ≤ 127 ∧ quant x s = ((n : ℝ) : EReal) := by
  unfold quant
  rw [bits_127, bits_neg127]
  generalize Ideal.div x s = z
  induction z with
  | bot => exact ⟨-127, by omega, by omega, by
      rw [show Ideal.liftRound Ideal.roundHalfEven ⊥ = ⊥ from rfl, max_eq_left bot_le, min_eq_right (by exact_mod_cast (by norm_num : (-127 : ℝ) ≤ 127))]
      norm_num⟩
  | top => exact ⟨127, by omega, by omega, by
      rw [show Ideal.liftRound Ideal.roundHalfEven ⊤ = ⊤ from rfl, max_eq_right le_top, min_eq_left le_top]
      norm_num⟩
  | coe r => exact ⟨min 127 (max (-127) (Ideal.roundHalfEven r)), by omega, by omega, by
      rw [show Ideal.liftRound Ideal.roundHalfEven (r : EReal) = (((Ideal.roundHalfEven r : ℤ) : ℝ) : EReal) from rfl]
      push_cast
      rw [EReal.coe_strictMono.monotone.map_min, EReal.coe_strictMono.monotone.map_max, ← EReal.coe_neg]⟩

/-- READING A CODE BACK gives the kept number. -/
theorem code_toInt (x s : EReal) : (((code x s).toInt : ℝ) : EReal) = quant x s := by
  obtain ⟨n, h1, h2, h⟩ := quant_int x s
  unfold code Ideal.fptosi
  rw [h]
  have e : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [Int.floor_intCast, Int.ceil_intCast, ite_self]
    omega
  rw [e, BitVec.toInt_ofInt, Int.bmod_eq_of_le (by omega) (by omega)]

end Cert.Quant

end
-- ==== Proof.Blocks.lean ====
/- THE OUTPUT BLOCKS, element by element: at the last point of a run, the codes, scales and residuals of a block's squares
   are the quantiser's on the squares of the whole array `V`. -/
module

public import proofs.«01_k».proof.Proof.Sum
public import proofs.«01_k».proof.Proof.Quant

@[expose] public section

set_option maxRecDepth 16384

noncomputable section

namespace Cert.KernelIdeal.Blocks

open Cert.KernelIdeal Cert.KernelIdeal.Gen Cert.KernelIdeal.Trip Cert.KernelIdeal.Sum Cert.Quant Idealize.ShloMosaic Idealize.ShloMosaic.TcCoe Idealize.SL.Sem

/-- A square's scale as the kernel computes it. -/
theorem pay6_eq (A E : FVec Ideal S128x128 .f32) :
    k0_pay6 (F := Ideal) A E = scaleOf fun a b => (A (ix2 a b) + E (ix2 a b) : EReal) := by
  pointwise [k0_pay6, k0_pay5, scaleOf, absmax]

/-- An element's code as the kernel computes it. -/
theorem pay8_at (A E : FVec Ideal S128x128 .f32) (a b : Fin 128) :
    k0_pay8 (F := Ideal) A E (ix2 a b) = code (A (ix2 a b) + E (ix2 a b) : EReal) (k0_pay6 (F := Ideal) A E) := by
  pointwise [k0_pay8, k0_pay7, k0_pay5, code, quant]
  rfl

/-- An element's residual as the kernel computes it. -/
theorem pay9_at (A E : FVec Ideal S128x128 .f32) (a b : Fin 128) :
    k0_pay9 (F := Ideal) A E (ix2 a b) = resid (A (ix2 a b) + E (ix2 a b) : EReal) (k0_pay6 (F := Ideal) A E) := by
  pointwise [k0_pay9, k0_pay7, k0_pay5, resid, quant]

variable (m : (ℓ : Loc nD τ sig) → Buf (Elt Ideal) ℓ)

/-- The accumulator at a point, and the point's error block. -/
abbrev accAt (c : Dev nD) (t : Fin cfg0.N) : FVec Ideal S2048x1024 .f32 := (outsAt0 m c t.val t.isLt).2.2.2
@[inherit_doc accAt] abbrev errAt (c : Dev nD) (t : Fin cfg0.N) : FVec Ideal S2048x1024 .f32 := iblk m c 2 t

/-- A square of the accumulator plus that of the error block, at the last point of a run, is a square of `V`. -/
theorem square_last (c : Dev nD) (t : Fin cfg0.N) (h1 : t.val % 56 = 55) (r : Fin 16) (s : Fin 8) (R C : Fin 64)
    (hR : R.val = 16 * (t.val / 448) + r.val) (hC : C.val = 8 * (t.val / 56 % 8) + s.val) (a b : Fin 128) :
    (square (F := Ideal) (accAt m c t) r s (ix2 a b) + square (F := Ideal) (errAt m c t) r s (ix2 a b) : EReal) = sq (Vm m c) R C a b := by
  refine v_last m c t h1 _ _ _ _ ?_ ?_
  · show 128 * R.val + a.val = 2048 * (t.val / 448) + (128 * r.val + a.val); omega
  · show 128 * C.val + b.val = 1024 * (t.val / 56 % 8) + (128 * s.val + b.val); omega

/-- The scale of a square at the last point of a run. -/
theorem scale_last (c : Dev nD) (t : Fin cfg0.N) (h1 : t.val % 56 = 55) (r : Fin 16) (s : Fin 8) (R C : Fin 64)
    (hR : R.val = 16 * (t.val / 448) + r.val) (hC : C.val = 8 * (t.val / 56 % 8) + s.val) :
    k0_pay6 (F := Ideal) (square (F := Ideal) (accAt m c t) r s) (square (F := Ideal) (errAt m c t) r s) = scaleOf (sq (Vm m c) R C) := by
  rw [pay6_eq]
  exact congrArg scaleOf (funext fun a => funext fun b => square_last m c t h1 r s R C hR hC a b)

/-- The block of scales, at the last point of a run. -/
theorem blkScale_at (c : Dev nD) (t : Fin cfg0.N) (h1 : t.val % 56 = 55) (r : Fin 16) (s : Fin 8) (R C : Fin 64)
    (hR : R.val = 16 * (t.val / 448) + r.val) (hC : C.val = 8 * (t.val / 56 % 8) + s.val) :
    blkScale (F := Ideal) (accAt m c t) (errAt m c t) (ix3 (0 : Fin 1) r s) = scaleOf (sq (Vm m c) R C) :=
  scale_last m c t h1 r s R C hR hC

/-- The value and the scale behind place `(a, b)` of a block, at the last point of a run. -/
theorem place_last (c : Dev nD) (t : Fin cfg0.N) (h1 : t.val % 56 = 55) (a : Fin 2048) (b : Fin 1024) (i j : Fin 8192)
    (hi : i.val = 2048 * (t.val / 448) + a.val) (hj : j.val = 1024 * (t.val / 56 % 8) + b.val) :
    (square (F := Ideal) (accAt m c t) (sqRow a) (sqCol b) (inSq a b) + square (F := Ideal) (errAt m c t) (sqRow a) (sqCol b) (inSq a b) : EReal) = Vm m c i j
    ∧ k0_pay6 (F := Ideal) (square (F := Ideal) (accAt m c t) (sqRow a) (sqCol b)) (square (F := Ideal) (errAt m c t) (sqRow a) (sqCol b)) = scaleAt (Vm m c) i j := by
  constructor
  · refine v_last m c t h1 _ _ _ _ ?_ ?_
    · show i.val = 2048 * (t.val / 448) + (128 * (a.val / 128) + a.val % 128); omega
    · show j.val = 1024 * (t.val / 56 % 8) + (128 * (b.val / 128) + b.val % 128); omega
  · refine scale_last m c t h1 _ _ _ _ ?_ ?_
    · show i.val / 128 = 16 * (t.val / 448) + a.val / 128; omega
    · show j.val / 128 = 8 * (t.val / 56 % 8) + b.val / 128; omega

/-- The block of codes, at the last point of a run. -/
theorem blkCodes_at (c : Dev nD) (t : Fin cfg0.N) (h1 : t.val % 56 = 55) (a : Fin 2048) (b : Fin 1024) (i j : Fin 8192)
    (hi : i.val = 2048 * (t.val / 448) + a.val) (hj : j.val = 1024 * (t.val / 56 % 8) + b.val) :
    blkCodes (F := Ideal) (accAt m c t) (errAt m c t) (ix2 a b) = code (Vm m c i j) (scaleAt (Vm m c) i j) := by
  obtain ⟨hv, hs⟩ := place_last m c t h1 a b i j hi hj
  rw [← hv, ← hs]
  exact pay8_at _ _ _ _

/-- The block of residuals, at the last point of a run. -/
theorem blkErr_at (c : Dev nD) (t : Fin cfg0.N) (h1 : t.val % 56 = 55) (a : Fin 2048) (b : Fin 1024) (i j : Fin 8192)
    (hi : i.val = 2048 * (t.val / 448) + a.val) (hj : j.val = 1024 * (t.val / 56 % 8) + b.val) :
    blkErr (F := Ideal) (accAt m c t) (errAt m c t) (ix2 a b) = resid (Vm m c i j) (scaleAt (Vm m c) i j) := by
  obtain ⟨hv, hs⟩ := place_last m c t h1 a b i j hi hj
  rw [← hv, ← hs]
  exact pay9_at _ _ _ _

end Cert.KernelIdeal.Blocks

end
-- ==== Proof.Arrays.lean ====
/- THE ARRAYS THE KERNEL WRITES: every output array as one function of its index, from the blocks the last points of the 32
   runs write back. The scales' array has one block of 16 by 8 scales per output block; the host lines after the kernel put
   the blocks in their places. -/
module

public import proofs.«01_k».proof.Proof.Blocks

@[expose] public section

set_option maxRecDepth 16384

noncomputable section

namespace Cert.KernelIdeal.Arrays

open Cert.KernelIdeal Cert.KernelIdeal.Gen Cert.KernelIdeal.Trip Cert.KernelIdeal.Sum Cert.KernelIdeal.Blocks Cert.Quant
open Idealize.ShloMosaic Idealize.ShloMosaic.TcCoe Idealize.SL.Sem

variable (m : (ℓ : Loc nD τ sig) → Buf (Elt Ideal) ℓ)

/-- The codes of all elements. -/
def codesArr (v : Fin 8192 → Fin 8192 → EReal) : IVec S8192x8192 8 := fun y => code (v (y 0) (y 1)) (scaleAt v (y 0) (y 1))

/-- The residuals of all elements. -/
def errArr (v : Fin 8192 → Fin 8192 → EReal) : FVec Ideal S8192x8192 .f32 := fun y => resid (v (y 0) (y 1)) (scaleAt v (y 0) (y 1))

/-- The scales, block by block: block `8 i + j` holds the scales of output block `(i, j)`. -/
def scaleBlks (v : Fin 8192 → Fin 8192 → EReal) : FVec Ideal S32x16x8 .f32 := fun y =>
  scaleOf (sq v ⟨16 * ((y 0).val / 8) + (y 1).val, by have h0 : (y 0).val < 32 := (y 0).isLt; have h1 : (y 1).val < 16 := (y 1).isLt; omega⟩
    ⟨8 * ((y 0).val % 8) + (y 2).val, by have h2 : (y 2).val < 8 := (y 2).isLt; omega⟩)

/-- The codes' array after the run. -/
theorem codes_final (c : Dev nD) : (dats m 0 c).arrAt 3 cfg0.N = codesArr (Vm m c) := by
  refine (dats m 0 c).arrAt_eq_of_covers 3 _ (by decide +kernel) fun t hf y => ?_
  have h1 := (flush0_3 t).mp hf
  have ht : t.val < 1792 := (idx t).2.2.2.2.2.2
  blk_simp
  rw [after0_3, (Acc.outs m c t h1).1]
  idx_vars y
  have e : ((View.whole main_v0_0).slice (win0_3.rect t)).emb (ix2 y0 y1)
      = ix2 (⟨2048 * (t.val / 448) + y0.val, by omega⟩ : Fin 8192) (⟨1024 * (t.val / 56 % 8) + y1.val, by omega⟩ : Fin 8192) := by
    blk_ext [idx t]
  rw [e]
  exact blkCodes_at m c t h1 y0 y1 _ _ rfl rfl

/-- The residuals' array after the run. -/
theorem err_final (c : Dev nD) : (dats m 0 c).arrAt 5 cfg0.N = errArr (Vm m c) := by
  refine (dats m 0 c).arrAt_eq_of_covers 5 _ (by decide +kernel) fun t hf y => ?_
  have h1 := (flush0_5 t).mp hf
  have ht : t.val < 1792 := (idx t).2.2.2.2.2.2
  blk_simp
  rw [after0_5, (Acc.outs m c t h1).2.2]
  idx_vars y
  have e : ((View.whole main_v0_2).slice (win0_5.rect t)).emb (ix2 y0 y1)
      = ix2 (⟨2048 * (t.val / 448) + y0.val, by omega⟩ : Fin 8192) (⟨1024 * (t.val / 56 % 8) + y1.val, by omega⟩ : Fin 8192) := by
    blk_ext [idx t]
  rw [e]
  exact blkErr_at m c t h1 y0 y1 _ _ rfl rfl

/-- The scales' array after the run. -/
theorem scale_final (c : Dev nD) : (dats m 0 c).arrAt 4 cfg0.N = scaleBlks (Vm m c) := by
  refine (dats m 0 c).arrAt_eq_of_covers 4 _ (by decide +kernel) fun t hf y => ?_
  have h1 := (flush0_4 t).mp hf
  have ht : t.val < 1792 := (idx t).2.2.2.2.2.2
  blk_simp
  rw [after0_4, (Acc.outs m c t h1).2.1]
  idx_vars y
  have e : ((View.whole main_v0_1).slice (win0_4.rect t)).emb (ix3 y0 y1 y2) = ix3 (⟨t.val / 56, by omega⟩ : Fin 32) y1 y2 := by
    blk_ext [idx t]
  rw [e]
  obtain rfl : y0 = 0 := Fin.ext (by omega)
  refine blkScale_at m c t h1 y1 y2 _ _ ?_ ?_
  · show 16 * (t.val / 56 / 8) + y1.val = 16 * (t.val / 448) + y1.val; omega
  · rfl

end Cert.KernelIdeal.Arrays

end
-- ==== Proof.KRun.lean ====
/- WHAT THE KERNEL COMPUTES: at the end of every run the codes, the scales and the residuals are the quantiser's on the
   squares of `V`, and the arguments are unchanged. The scales go through the host lines after the kernel, which put block
   `8 i + j` of the kernel's array at rows `16 i` and columns `8 j`. -/
module

public import proofs.«01_k».proof.Proof.Arrays
public import Idealize.ShloMosaic.Lib.Claim

@[expose] public section

set_option maxRecDepth 16384

noncomputable section

namespace Cert.KernelIdeal.KRun

open Cert.KernelIdeal Cert.KernelIdeal.Gen Cert.KernelIdeal.Sum Cert.KernelIdeal.Arrays Cert.Quant
open Idealize.ShloMosaic Idealize.ShloMosaic.TcCoe Idealize.SL.Sem

/-- The scales of all the squares. -/
def scaleArr (v : Fin 8192 → Fin 8192 → EReal) : FVec Ideal S64x64 .f32 := fun y => scaleOf (sq v (y 0) (y 1))

/-- The host lines after the kernel put the blocks of scales in their places. -/
theorem place_scales (v : Fin 8192 → Fin 8192 → EReal) :
    shapeCast S64x64 (transpose S4x16x8x8 [0, 2, 1, 3] (shapeCast S4x8x16x8 (scaleBlks v) shapeCasts_S32x16x8_S4x8x16x8)
      transposes_S4x8x16x8_S4x16x8x8_0_2_1_3) shapeCasts_S4x16x8x8_S64x64 = scaleArr v := by
  funext y
  idx_vars y
  pointwise
  refine congrArg scaleOf (congrArg₂ (sq v) (Fin.ext ?_) (Fin.ext ?_))
  · show 16 * ((y0.val / 16 * 8 + y1.val / 8) / 8) + y0.val % 16 = y0.val; omega
  · show 8 * ((y0.val / 16 * 8 + y1.val / 8) % 8) + y1.val % 8 = y1.val; omega

variable (m : (ℓ : Loc nD τ sig) → Buf (Elt Ideal) ℓ) (ρ : Dev nD → PrngReg)

/-- The scales' buffer after the host lines. -/
theorem tail_scales (c : Dev nD) :
    Pipeline.afterTail₀ cfgs (dats m) 0 (V0 m) [hostOps1] c main_v3 = scaleArr (Vm m c) := by
  unfold Pipeline.afterTail₀
  simp only [List.flatten_cons, List.flatten_nil, List.append_nil]
  after_results
  rw [← place_scales, ← scale_final m c]
  rw [← (dats m 0 c).withArrays_arrAt (by decide) (V0 m c) (A_eq m c) 4]
  rfl

/-- THE KERNEL'S RUN. -/
theorem run : θ_run defs (onTc (τ := τ) (main (F := Ideal))) ⟨m, fun _ => 0, ρ⟩ (fun r => ∀ c : Dev nD,
      r.2.mem ((c.tc : Thread nD τ).loc main_v0_0) = codesArr (Vm m c)
      ∧ r.2.mem ((c.tc : Thread nD τ).loc main_v3) = scaleArr (Vm m c)
      ∧ r.2.mem ((c.tc : Thread nD τ).loc main_v0_2) = errArr (Vm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (codes_final m c),
      ((h c).2 main_v3 (Pipeline.mem_restRefs_of main_v3 (by decide) (by decide))).trans (tail_scales m c),
      ((h c).1 5).trans (err_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelIdeal.KRun

end
-- ==== Proof.Reduce13.lean ====
/- A REDUCTION over the second and the fourth axis of an array of rank 4, at an index of its result: the fold over the
   elements that share the result's two coordinates. -/
module

public import Idealize.ShloMosaic.Lib.Pipeline.ValueKit

@[expose] public section

noncomputable section

namespace Cert.Reduce13

open Idealize.ShloMosaic

variable {n0 n1 n2 n3 : ℕ}

/-- The place of an element of the fiber over `(R, C)`. -/
def emb (R : Fin n0) (C : Fin n2) : Fin n1 × Fin n3 ↪ (⟨4, ![n0, n1, n2, n3]⟩ : Shape).Idx where
  toFun p := ix4 R p.1 C p.2
  inj' p q h := Prod.ext (congrFun h 1) (congrFun h 3)

/-- The fiber over `(R, C)`: the elements whose first and third coordinates are `R` and `C`. -/
theorem fiber (h : (⟨4, ![n0, n1, n2, n3]⟩ : Shape).ReducesTo [1, 3] ⟨2, ![n0, n2]⟩) (R : Fin n0) (C : Fin n2) :
    (Finset.univ.filter fun i => h.drop i = ix2 R C) = Finset.univ.map (emb (n1 := n1) (n3 := n3) R C) := by
  have d0 : ∀ i, (h.drop i 0).val = (i 0).val := fun i => h.drop_apply_val_of_eq i 0 0 Nat.zero_lt_two rfl
  have d1 : ∀ i, (h.drop i 1).val = (i 2).val := fun i => h.drop_apply_val_of_eq i 1 2 Nat.one_lt_two rfl
  ext i
  simp only [Finset.mem_filter, Finset.mem_univ, true_and, Finset.mem_map]
  constructor
  · intro e
    refine ⟨(i 1, i 3), funext fun a => Fin.ext ?_⟩
    match a with
    | ⟨0, _⟩ => exact (congrArg (fun j => (j 0).val) e).symm.trans (d0 i)
    | ⟨1, _⟩ => rfl
    | ⟨2, _⟩ => exact (congrArg (fun j => (j 1).val) e).symm.trans (d1 i)
    | ⟨3, _⟩ => rfl
  · rintro ⟨p, rfl⟩
    funext a
    refine Fin.ext ?_
    match a with
    | ⟨0, _⟩ => exact d0 _
    | ⟨1, _⟩ => exact d1 _

/-- The reduction at an index. -/
theorem reduce_at {α : Type} {u : Shape} (f : α → α → α) [Std.Commutative f] [Std.Associative f]
    (x : (⟨4, ![n0, n1, n2, n3]⟩ : Shape).Idx → α) (init : u.Idx → α)
    (h : (⟨4, ![n0, n1, n2, n3]⟩ : Shape).ReducesTo [1, 3] ⟨2, ![n0, n2]⟩) (hu : 0 < u.numel) (R : Fin n0) (C : Fin n2) :
    Host.reduce f x init h hu (ix2 R C)
      = Finset.univ.fold f (init (Shape.Idx.first hu)) fun p : Fin n1 × Fin n3 => x (ix4 R p.1 C p.2) := by
  rw [Host.reduce_eq_fold, fiber, Finset.fold_map]
  rfl

end Cert.Reduce13

end
-- ==== Proof.RefVal.lean ====
/- THE REFERENCE'S HOST LINES, at an index: the gradient plus the error, the scales of its squares, and the two arrays that
   the reference's kernel reads besides it (the rounded and clamped quotients, and the scale of every element). -/
module

public import proofs.«01_k».proof.Proof.Gen.ReferenceIdeal.Frame
public import proofs.«01_k».proof.Proof.Quant
public import proofs.«01_k».proof.Proof.Reduce13

@[expose] public section

set_option maxRecDepth 16384

noncomputable section

namespace Cert.ReferenceIdeal.RefVal

open Cert.ReferenceIdeal Cert.ReferenceIdeal.Gen Cert.Quant
open Idealize.ShloMosaic Idealize.ShloMosaic.TcCoe Idealize.SL.Sem

/-- The weight gradient plus the error: what is quantised. -/
def grad (X Y : FVec Ideal S28672x8192 .bf16) (E : FVec Ideal S8192x8192 .f32) : FVec Ideal S8192x8192 .f32 :=
  addf (Host.dotGeneral dot_S28672x8192_S28672x8192_S8192x8192_0_0_1_1_n_n none X Y) E

/-- An array of rank 2 as a function of its two coordinates. -/
def fn (v : FVec Ideal S8192x8192 .f32) : Fin 8192 → Fin 8192 → EReal := fun i j => v (ix2 i j)

/-- The array as 64 by 64 squares. -/
def squares (v : FVec Ideal S8192x8192 .f32) : FVec Ideal S64x128x64x128 .f32 :=
  shapeCast S64x128x64x128 v shapeCasts_S8192x8192_S64x128x64x128

/-- The greatest magnitude in every square. -/
def maxes (v : FVec Ideal S8192x8192 .f32) : FVec Ideal S64x64 .f32 :=
  Host.reduce FloatOps.maximumf (Host.absf (squares v)) (constant S_ .f32 0xFF800000#32) reducesTo_S64x128x64x128_S64x64_d1_3 h_S_

/-- The scales, from the greatest magnitudes. -/
def scalesOf (a : FVec Ideal S64x64 .f32) : FVec Ideal S64x64 .f32 :=
  select (cmpf .oeq a (broadcastInDim S64x64 ![] bcast_S_S64x64 (constant S_ .f32 0x00000000#32)))
    (broadcastInDim S64x64 ![] bcast_S_S64x64 (constant S_ .f32 0x3F800000#32))
    (Host.divf a (broadcastInDim S64x64 ![] bcast_S_S64x64 (constant S_ .f32 0x42FE0000#32)))

/-- The gradient plus the error at an index. -/
theorem grad_at (X Y : FVec Ideal S28672x8192 .bf16) (E : FVec Ideal S8192x8192 .f32) (i j : Fin 8192) :
    grad X Y E (ix2 i j) = (∑ k : Fin 28672, X (ix2 k i) * Y (ix2 k j)) + E (ix2 i j) := by
  pointwise [grad]

/-- An element of a square. -/
theorem squares_at (v : FVec Ideal S8192x8192 .f32) (R C : Fin 64) (a b : Fin 128) :
    squares v (ix4 R a C b) = sq (fn v) R C a b := by
  pointwise [squares]
  exact congrArg₂ (fn v) (Fin.ext (by show R.val * 128 + a.val = 128 * R.val + a.val; omega))
    (Fin.ext (by show C.val * 128 + b.val = 128 * C.val + b.val; omega))

/-- The greatest magnitude in a square. -/
theorem maxes_at (v : FVec Ideal S8192x8192 .f32) (R C : Fin 64) : maxes v (ix2 R C) = absmax (sq (fn v) R C) :=
  (Reduce13.reduce_at _ _ _ _ _ R C).trans
    (Finset.fold_congr fun p _ => congrArg (FloatOps.absf (F := Ideal) (φ := .f32)) (squares_at v R C p.1 p.2))

/-- The scale, from the greatest magnitude. -/
theorem scalesOf_at (a : FVec Ideal S64x64 .f32) (R C : Fin 64) : scalesOf a (ix2 R C)
    = if a (ix2 R C) = 0 then 1 else Ideal.div (a (ix2 R C)) (Ideal.ofBits FTy.f32 0x42FE0000#32) := by
  pointwise [scalesOf]

/-- The scale of a square. -/
theorem scales_at (v : FVec Ideal S8192x8192 .f32) (R C : Fin 64) : scalesOf (maxes v) (ix2 R C) = scaleOf (sq (fn v) R C) := by
  rw [scalesOf_at, maxes_at]
  rfl

/-- The scales, one row and one column for every square. -/
def thin (s : FVec Ideal S64x64 .f32) : FVec Ideal S64x1x64x1 .f32 :=
  broadcastInDim S64x1x64x1 ![0, 2] bcast_S64x64_S64x1x64x1_0_2 s

/-- Every element's scale, square by square. -/
def spread (s : FVec Ideal S64x64 .f32) : FVec Ideal S64x128x64x128 .f32 :=
  broadcastInDim S64x128x64x128 ![0, 1, 2, 3] bcast_S64x1x64x1_S64x128x64x128_0_1_2_3 (thin s)

/-- Every element's scale. -/
def scaleFull (s : FVec Ideal S64x64 .f32) : FVec Ideal S8192x8192 .f32 :=
  shapeCast S8192x8192 (spread s) shapeCasts_S64x128x64x128_S8192x8192

/-- The quotients by the scales, rounded and clamped, square by square. -/
def quants (v : FVec Ideal S8192x8192 .f32) (s : FVec Ideal S64x64 .f32) : FVec Ideal S64x128x64x128 .f32 :=
  minimumf (broadcastInDim S64x128x64x128 ![] bcast_S_S64x128x64x128 (constant (F := Ideal) S_ .f32 0x42FE0000#32))
    (maximumf (broadcastInDim S64x128x64x128 ![] bcast_S_S64x128x64x128 (constant (F := Ideal) S_ .f32 0xC2FE0000#32))
      (Host.roundeven (Host.divf (squares v) (spread s))))

/-- The quotients by the scales, rounded and clamped. -/
def quantFull (v : FVec Ideal S8192x8192 .f32) (s : FVec Ideal S64x64 .f32) : FVec Ideal S8192x8192 .f32 :=
  shapeCast S8192x8192 (quants v s) shapeCasts_S64x128x64x128_S8192x8192

/-- The element's scale. -/
theorem scaleFull_at (s : FVec Ideal S64x64 .f32) (i j : Fin 8192) :
    scaleFull s (ix2 i j) = s (ix2 (⟨i.val / 128, by omega⟩ : Fin 64) (⟨j.val / 128, by omega⟩ : Fin 64)) := by
  pointwise [scaleFull, spread, thin]

/-- The element's quotient, rounded and clamped. -/
theorem quantFull_at (v : FVec Ideal S8192x8192 .f32) (s : FVec Ideal S64x64 .f32) (i j : Fin 8192) :
    quantFull v s (ix2 i j) = quant (fn v i j) (s (ix2 (⟨i.val / 128, by omega⟩ : Fin 64) (⟨j.val / 128, by omega⟩ : Fin 64))) := by
  pointwise [quantFull, quants, squares, spread, thin]
  rfl

end Cert.ReferenceIdeal.RefVal

end
-- ==== Proof.RHost.lean ====
/- WHAT THE REFERENCE'S KERNEL READS: its three operands and the scales, after the host lines before it. The lines are read
   in two parts, the first ending with the greatest magnitudes, so that the reduction is one array in the second. -/
module

public import proofs.«01_k».proof.Proof.RefVal
public import Idealize.ShloMosaic.Lib.StableHlo.RunRead

@[expose] public section

set_option maxRecDepth 16384

noncomputable section

namespace Cert.ReferenceIdeal.RHost

open Cert.ReferenceIdeal Cert.ReferenceIdeal.Gen Cert.ReferenceIdeal.RefVal Cert.Quant
open Idealize.ShloMosaic Idealize.ShloMosaic.TcCoe Idealize.SL.Sem

variable (m : (ℓ : Loc nD τ sig) → Buf (Elt Ideal) ℓ) (ρ : Dev nD → PrngReg)

/-- The gradient plus the error, of the arguments in memory `m`. -/
abbrev gradm (c : Dev nD) : FVec Ideal S8192x8192 .f32 :=
  grad (m ((c.tc : Thread nD τ).loc main_arg0)) (m ((c.tc : Thread nD τ).loc main_arg1)) (m ((c.tc : Thread nD τ).loc main_arg2))

/-- Its scales. -/
abbrev scalesm (c : Dev nD) : FVec Ideal S64x64 .f32 := scalesOf (maxes (gradm m c))

/-- All host lines before the kernel. -/
abbrev ops : List (HloOp τ sig (Elt Ideal)) := List.flatten [hostOps0, hostOps0_1, hostOps0_2, hostOps0_3, hostOps0_4, hostOps0_5, hostOps0_6]

/-- Lines one after another: the second ones from where the first ones end. -/
theorem after_append (l k : List (HloOp τ sig (Elt Ideal))) (w : Valuation τ sig (Elt Ideal)) :
    StableHlo.after (l ++ k) w = StableHlo.after k (StableHlo.after l w) := by
  induction l generalizing w with
  | nil => rfl
  | cons op l ih => exact ih _

/-- The buffers after the first six of them, which end with the greatest magnitudes. -/
def W (c : Dev nD) : Valuation τ sig (Elt Ideal) := StableHlo.after (ops.take 6) fun b => m (c, b)

/-- The gradient plus the error is computed by then. -/
theorem W_v (c : Dev nD) : W m c main_v1 = gradm m c := by
  simp only [W, ops, hostOps0, List.flatten_cons, List.cons_append, List.nil_append, List.take_succ_cons, List.take_zero]
  after_results
  rfl

/-- So are its squares. -/
theorem W_squares (c : Dev nD) : W m c main_v2 = squares (gradm m c) := by
  simp only [W, ops, hostOps0, List.flatten_cons, List.cons_append, List.nil_append, List.take_succ_cons, List.take_zero]
  after_results
  rfl

/-- So are the greatest magnitudes. -/
theorem W_maxes (c : Dev nD) : W m c main_v4 = maxes (gradm m c) := by
  simp only [W, ops, hostOps0, List.flatten_cons, List.cons_append, List.nil_append, List.take_succ_cons, List.take_zero]
  after_results
  exact congrArg (fun z : FVec Ideal S64x128x64x128 .f32 => Host.reduce FloatOps.maximumf (Host.absf z) (constant S_ .f32 0xFF800000#32)
    reducesTo_S64x128x64x128_S64x64_d1_3 h_S_) rfl

/-- The buffers at the kernel are those after the other lines, from there. -/
theorem V_eq (c : Dev nD) (b : Ref sig .tc) : V m c b = StableHlo.after (ops.drop 6) (W m c) b := by
  unfold W
  rw [← after_append, List.take_append_drop]

/-! The buffers of the called functions hold their contents as they are. -/

/-- `main_v6`, as a called function reads it. -/
theorem of_v6 (h1 h2 h3) (x : IVec S64x64 1) :
    (StableHlo.TRef.of main_v6 h1 h2 h3 : StableHlo.TRef sig ⟨S64x64, .i1⟩).ofBuf (Val := Elt Ideal) x = x := rfl
/-- `main_v8`, as a called function reads it. -/
theorem of_v8 (h1 h2 h3) (x : FVec Ideal S64x64 .f32) :
    (StableHlo.TRef.of main_v8 h1 h2 h3 : StableHlo.TRef sig ⟨S64x64, .f32⟩).ofBuf (Val := Elt Ideal) x = x := rfl
/-- `main_v9`, as a called function writes it. -/
theorem to_v9 (h1 h2 h3) (x : FVec Ideal S64x64 .f32) :
    (StableHlo.TRef.of main_v9 h1 h2 h3 : StableHlo.TRef sig ⟨S64x64, .f32⟩).toBuf (Val := Elt Ideal) x = x := rfl
/-- `main_cst_2`, as a called function reads it. -/
theorem of_cst_2 (h1 h2 h3) (x : FVec Ideal S_ .f32) :
    (StableHlo.TRef.of main_cst_2 h1 h2 h3 : StableHlo.TRef sig ⟨S_, .f32⟩).ofBuf (Val := Elt Ideal) x = x := rfl
/-- `main_cst_3`, as a called function reads it. -/
theorem of_cst_3 (h1 h2 h3) (x : FVec Ideal S_ .f32) :
    (StableHlo.TRef.of main_cst_3 h1 h2 h3 : StableHlo.TRef sig ⟨S_, .f32⟩).ofBuf (Val := Elt Ideal) x = x := rfl
/-- `main_cst_4`, as a called function reads it. -/
theorem of_cst_4 (h1 h2 h3) (x : FVec Ideal S_ .f32) :
    (StableHlo.TRef.of main_cst_4 h1 h2 h3 : StableHlo.TRef sig ⟨S_, .f32⟩).ofBuf (Val := Elt Ideal) x = x := rfl
/-- `main_v12`, as a called function reads it. -/
theorem of_v12 (h1 h2 h3) (x : FVec Ideal S64x128x64x128 .f32) :
    (StableHlo.TRef.of main_v12 h1 h2 h3 : StableHlo.TRef sig ⟨S64x128x64x128, .f32⟩).ofBuf (Val := Elt Ideal) x = x := rfl
/-- `main_v14`, as a called function writes it. -/
theorem to_v14 (h1 h2 h3) (x : FVec Ideal S64x128x64x128 .f32) :
    (StableHlo.TRef.of main_v14 h1 h2 h3 : StableHlo.TRef sig ⟨S64x128x64x128, .f32⟩).toBuf (Val := Elt Ideal) x = x := rfl

/-- The kernel's second operand. -/
theorem v_entry (c : Dev nD) : V m c main_v1 = gradm m c := by
  rw [V_eq, ← W_v]
  generalize W m c = w
  simp only [ops, hostOps0, hostOps0_1, hostOps0_2, hostOps0_3, hostOps0_4, hostOps0_5, hostOps0_6, List.flatten_cons, List.flatten_nil,
    List.append_nil, List.cons_append, List.nil_append, List.drop_succ_cons, List.drop_zero]
  after_results

/-- The scales' buffer. -/
theorem s_entry (c : Dev nD) : V m c main_v9 = scalesm m c := by
  unfold scalesm
  rw [V_eq, ← W_maxes]
  generalize W m c = w
  simp only [ops, hostOps0, hostOps0_1, hostOps0_2, hostOps0_3, hostOps0_4, hostOps0_5, hostOps0_6, List.flatten_cons, List.flatten_nil,
    List.append_nil, List.cons_append, List.nil_append, List.drop_succ_cons, List.drop_zero]
  after_results
  simp only [StableHlo.TRef.ofBuf_toBuf, of_v6, of_v8, to_v9, of_cst_2, of_cst_3, of_cst_4, of_v12, to_v14, id]
  rfl

/-- The kernel's third operand. -/
theorem sfull_entry (c : Dev nD) : V m c main_v17 = scaleFull (scalesm m c) := by
  unfold scalesm
  rw [V_eq, ← W_maxes]
  generalize W m c = w
  simp only [ops, hostOps0, hostOps0_1, hostOps0_2, hostOps0_3, hostOps0_4, hostOps0_5, hostOps0_6, List.flatten_cons, List.flatten_nil,
    List.append_nil, List.cons_append, List.nil_append, List.drop_succ_cons, List.drop_zero]
  after_results
  simp only [StableHlo.TRef.ofBuf_toBuf, of_v6, of_v8, to_v9, of_cst_2, of_cst_3, of_cst_4, of_v12, to_v14, id]
  rfl

/-- The kernel's first operand. -/
theorem q_entry (c : Dev nD) : V m c main_v15 = quantFull (gradm m c) (scalesm m c) := by
  unfold scalesm quantFull quants
  rw [V_eq, ← W_maxes, ← W_squares]
  generalize W m c = w
  simp only [ops, hostOps0, hostOps0_1, hostOps0_2, hostOps0_3, hostOps0_4, hostOps0_5, hostOps0_6, List.flatten_cons, List.flatten_nil,
    List.append_nil, List.cons_append, List.nil_append, List.drop_succ_cons, List.drop_zero]
  after_results
  simp only [StableHlo.TRef.ofBuf_toBuf, of_v6, of_v8, to_v9, of_cst_2, of_cst_3, of_cst_4, of_v12, to_v14, id]
  rfl

/-- The gradient plus the error, as a function of two coordinates. -/
abbrev Vm (c : Dev nD) : Fin 8192 → Fin 8192 → EReal := fn (gradm m c)

/-- The scales' buffer after the run. -/
theorem scale_at (c : Dev nD) (R C : Fin 64) : scalesm m c (ix2 R C) = scaleOf (sq (Vm m c) R C) := scales_at _ R C

/-- An element's rounded and clamped quotient. -/
theorem q_at (c : Dev nD) (i j : Fin 8192) :
    quantFull (gradm m c) (scalesm m c) (ix2 i j) = quant (Vm m c i j) (scaleAt (Vm m c) i j) :=
  (quantFull_at _ _ i j).trans (congrArg (quant (Vm m c i j)) (scale_at m c _ _))

/-- An element's scale. -/
theorem sfull_at (c : Dev nD) (i j : Fin 8192) : scaleFull (scalesm m c) (ix2 i j) = scaleAt (Vm m c) i j :=
  (scaleFull_at _ i j).trans (scale_at m c _ _)

end Cert.ReferenceIdeal.RHost

end
-- ==== Proof.RRun.lean ====
/- WHAT THE REFERENCE COMPUTES: at the end of every run its codes, scales and residuals are the quantiser's on the 128 by
   128 squares of the gradient plus the error, and the arguments are unchanged. -/
module

public import proofs.«01_k».proof.Proof.RHost
public import Idealize.ShloMosaic.Lib.Claim

@[expose] public section

set_option maxRecDepth 16384

noncomputable section

namespace Cert.ReferenceIdeal.RRun

open Cert.ReferenceIdeal Cert.ReferenceIdeal.Gen Cert.ReferenceIdeal.RefVal Cert.ReferenceIdeal.RHost Cert.Quant
open Idealize.ShloMosaic Idealize.ShloMosaic.TcCoe Idealize.SL.Sem

variable (m : (ℓ : Loc nD τ sig) → Buf (Elt Ideal) ℓ) (ρ : Dev nD → PrngReg)

/-- The codes, from the quotients. -/
theorem pay1_at (q : FVec Ideal S8192x8192 .f32) (i j : Fin 8192) : k0_pay1 (F := Ideal) q (ix2 i j) = Ideal.fptosi 8 (q (ix2 i j)) := by
  pointwise [k0_pay1]
  rfl

/-- The residuals, from the codes. -/
theorem pay2_at (q v s : FVec Ideal S8192x8192 .f32) (i j : Fin 8192) : k0_pay2 (F := Ideal) q v s (ix2 i j)
    = v (ix2 i j) - (((Ideal.fptosi 8 (q (ix2 i j))).toInt : ℝ) : EReal) * s (ix2 i j) := by
  pointwise [k0_pay1, k0_pay2]
  rfl

/-- The block the operands' windows show starts at the array's corner. -/
theorem start : win0_0.index t0_0 = ![0, 0] ∧ win0_1.index t0_0 = ![0, 0] ∧ win0_2.index t0_0 = ![0, 0] := by
  decide +kernel

/-- Window 0's one block is the whole of its array, -/
theorem q_read (A : Vec Ideal S8192x8192 .f32) (i j : Fin 8192) :
    (((cfg0.win 0).blk t0_0).view.read (Elt Ideal) A : Vec Ideal S8192x8192 .f32) (ix2 i j) = A (ix2 i j) := by
  blk_ext [start]

/-- as the kernel finds it. -/
theorem q_blk0 (c : Dev nD) (i j : Fin 8192) :
    (iblk m c 0 t0_0 : Vec Ideal S8192x8192 .f32) (ix2 i j) = V m c main_v15 (ix2 i j) := by
  unfold iblk
  exact q_read (V m c main_v15) i j

/-- Window 1's one block is the whole of its array, -/
theorem v_read (A : Vec Ideal S8192x8192 .f32) (i j : Fin 8192) :
    (((cfg0.win 1).blk t0_0).view.read (Elt Ideal) A : Vec Ideal S8192x8192 .f32) (ix2 i j) = A (ix2 i j) := by
  blk_ext [start]

/-- as the kernel finds it. -/
theorem v_blk0 (c : Dev nD) (i j : Fin 8192) :
    (iblk m c 1 t0_0 : Vec Ideal S8192x8192 .f32) (ix2 i j) = V m c main_v1 (ix2 i j) := by
  unfold iblk
  exact v_read (V m c main_v1) i j

/-- Window 2's one block is the whole of its array, -/
theorem s_read (A : Vec Ideal S8192x8192 .f32) (i j : Fin 8192) :
    (((cfg0.win 2).blk t0_0).view.read (Elt Ideal) A : Vec Ideal S8192x8192 .f32) (ix2 i j) = A (ix2 i j) := by
  blk_ext [start]

/-- as the kernel finds it. -/
theorem s_blk0 (c : Dev nD) (i j : Fin 8192) :
    (iblk m c 2 t0_0 : Vec Ideal S8192x8192 .f32) (ix2 i j) = V m c main_v17 (ix2 i j) := by
  unfold iblk
  exact s_read (V m c main_v17) i j

/-- The kernel's one point reads the whole arrays: the quotients, -/
theorem q_blk (c : Dev nD) (i j : Fin 8192) :
    (iblk m c 0 t0_0 : Vec Ideal S8192x8192 .f32) (ix2 i j) = quant (Vm m c i j) (scaleAt (Vm m c) i j) := by
  rw [← q_at, ← q_entry]
  exact q_blk0 m c i j

/-- the gradient plus the error, -/
theorem v_blk (c : Dev nD) (i j : Fin 8192) : (iblk m c 1 t0_0 : Vec Ideal S8192x8192 .f32) (ix2 i j) = Vm m c i j := by
  show _ = gradm m c (ix2 i j)
  rw [← v_entry]
  exact v_blk0 m c i j

/-- and the scales. -/
theorem s_blk (c : Dev nD) (i j : Fin 8192) :
    (iblk m c 2 t0_0 : Vec Ideal S8192x8192 .f32) (ix2 i j) = scaleAt (Vm m c) i j := by
  rw [← sfull_at, ← sfull_entry]
  exact s_blk0 m c i j

/-- The codes' array after the run. -/
theorem codes_final (c : Dev nD) : (dats m 0 c).arrAt 3 cfg0.N
    = (fun y => code (Vm m c (y 0) (y 1)) (scaleAt (Vm m c) (y 0) (y 1)) : IVec S8192x8192 8) := by
  refine (dats m 0 c).arrAt_eq_of_after_last 3 t0_0 (by decide +kernel) _ fun j => ?_
  blk_simp
  rw [after0_3]
  frame_out
  idx_vars j
  exact (pay1_at _ j0 j1).trans (congrArg (Ideal.fptosi 8) (q_blk m c j0 j1))

/-- The residuals' array after the run. -/
theorem err_final (c : Dev nD) : (dats m 0 c).arrAt 4 cfg0.N
    = (fun y => resid (Vm m c (y 0) (y 1)) (scaleAt (Vm m c) (y 0) (y 1)) : FVec Ideal S8192x8192 .f32) := by
  refine (dats m 0 c).arrAt_eq_of_after_last 4 t0_0 (by decide +kernel) _ fun j => ?_
  blk_simp
  rw [after0_4]
  frame_out
  idx_vars j
  refine (pay2_at _ _ _ j0 j1).trans ?_
  rw [q_blk, v_blk, s_blk]
  show _ - (((code _ _).toInt : ℝ) : EReal) * _ = resid _ _
  rw [code_toInt]
  rfl

/-- THE REFERENCE'S RUN. -/
theorem run : θ_run defs (onTc (τ := τ) (main (F := Ideal))) ⟨m, fun _ => 0, ρ⟩ (fun r => ∀ c : Dev nD,
      r.2.mem ((c.tc : Thread nD τ).loc main_v18_0)
        = (fun y => code (Vm m c (y 0) (y 1)) (scaleAt (Vm m c) (y 0) (y 1)) : IVec S8192x8192 8)
      ∧ r.2.mem ((c.tc : Thread nD τ).loc main_v9) = (fun y => scaleOf (sq (Vm m c) (y 0) (y 1)) : FVec Ideal S64x64 .f32)
      ∧ r.2.mem ((c.tc : Thread nD τ).loc main_v18_1)
        = (fun y => resid (Vm m c (y 0) (y 1)) (scaleAt (Vm m c) (y 0) (y 1)) : FVec Ideal S8192x8192 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (codes_final m c),
      (((h c).2 main_v9 (Pipeline.mem_restRefs_of main_v9 (by decide) (by decide))).trans (s_entry m c)).trans
        (funext fun y => by idx_vars y; exact scale_at m c y0 y1),
      ((h c).1 4).trans (err_final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.ReferenceIdeal.RRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.RRun
public import Idealize.ShloMosaic.Adequacy
public import Idealize.ShloMosaic.Init

@[expose] public section

noncomputable section

namespace Cert.Proof

open Idealize.ShloMosaic Idealize.SL.Sem Cert.Kernel

/-- What the two programs quantise is one function of the arguments: where the arguments agree, so do the gradients plus
    the errors. -/
theorem same_grad (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RHost.Vm m' c = Cert.KernelIdeal.Sum.Vm m c := by
  unfold Cert.ReferenceIdeal.RHost.Vm Cert.ReferenceIdeal.RHost.gradm
  rw [h0, h1, h2]
  funext i j
  exact Cert.ReferenceIdeal.RefVal.grad_at _ _ _ i j

/-- The two programs end with equal codes, scales and residuals. -/
theorem algebraic : algebraic_KernelIdeal_ReferenceIdeal (hKernelIdeal := Cert.KernelIdeal.Gen.facts)
    (hReferenceIdeal := Cert.ReferenceIdeal.Gen.facts) := by
  intro m g m' g' _ hagree
  have e : ∀ c, Cert.ReferenceIdeal.RHost.Vm m' c = Cert.KernelIdeal.Sum.Vm m c := fun c =>
    same_grad m m' c (hagree c).1 (hagree c).2.1 (hagree c).2.2
  have hR := Cert.ReferenceIdeal.RRun.run m' g'
  simp only [e] at hR
  exact ⟨_, _, _, Cert.KernelIdeal.KRun.run m g, hR⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
